-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "rsq" .f32 0x3E3504F3#32 (((Real.sqrt 32)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x1024 : Shape := ⟨3, ![2, 4096, 1024]⟩
abbrev S1024x32 : Shape := ⟨2, ![1024, 32]⟩
abbrev S1024x64 : Shape := ⟨2, ![1024, 64]⟩
abbrev S64x1024 : Shape := ⟨2, ![64, 1024]⟩
abbrev S1024x1 : Shape := ⟨2, ![1024, 1]⟩
abbrev S1 : Shape := ⟨1, ![1]⟩
abbrev S32x32 : Shape := ⟨2, ![32, 32]⟩
abbrev S2x32x16 : Shape := ⟨3, ![2, 32, 16]⟩
abbrev S2x65536x2x32 : Shape := ⟨4, ![2, 65536, 2, 32]⟩
abbrev S2x65536x2x64 : Shape := ⟨4, ![2, 65536, 2, 64]⟩
abbrev S_ : Shape := ⟨0, ![]⟩

class Facts : Prop where
  bcast_S_S2x4096x1024 : S_.BroadcastsInDim S2x4096x1024 (![] : Fin 0 → Fin S2x4096x1024.rank)
  bcast_S_S1024x32 : S_.BroadcastsInDim S1024x32 (![] : Fin 0 → Fin S1024x32.rank)
  bcast_S_S2x65536x2x32 : S_.BroadcastsInDim S2x65536x2x32 (![] : Fin 0 → Fin S2x65536x2x32.rank)

variable [Facts]

def fn {F : FTy → Type} [FloatOps F] (main_arg0 : FVec F S2x4096x1024 .f32) (main_arg1 : FVec F S1024x32 .f32) (main_arg2 : FVec F S1024x32 .f32) (main_arg3 : FVec F S1024x64 .f32) (main_arg4 : FVec F S64x1024 .f32) (main_arg5 : FVec F S1024x1 .f32) (main_arg6 : FVec F S1 .f32) (main_arg7 : FVec F S32x32 .f32) (main_arg8 : FVec F S2x32x16 .f32) (main_arg9 : FVec F S2x65536x2x32 .f32) (main_arg10 : FVec F S2x65536x2x64 .f32) (main_arg11 : FVec F S2x65536x2x32 .f32) : IVec S2x4096x1024 1 × IVec S1024x32 1 × IVec S2x65536x2x32 1 × IVec S2x65536x2x32 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S1024x32 .f32 := Host.absf main_arg1
  let main_cst_0 : FVec F S_ .f32 := constant S_ .f32 0x7F800000#32
  let main_v4 : FVec F S1024x32 .f32 := broadcastInDim S1024x32 ![] bcast_S_S1024x32 main_cst_0
  let main_v5 : IVec S1024x32 1 := cmpf .olt main_v3 main_v4
  let main_v6 : FVec F S2x65536x2x32 .f32 := Host.absf main_arg9
  let main_cst_1 : FVec F S_ .f32 := constant S_ .f32 0x7F800000#32
  let main_v7 : FVec F S2x65536x2x32 .f32 := broadcastInDim S2x65536x2x32 ![] bcast_S_S2x65536x2x32 main_cst_1
  let main_v8 : IVec S2x65536x2x32 1 := cmpf .olt main_v6 main_v7
  let main_v9 : FVec F S2x65536x2x32 .f32 := Host.absf main_arg11
  let main_cst_2 : FVec F S_ .f32 := constant S_ .f32 0x7F800000#32
  let main_v10 : FVec F S2x65536x2x32 .f32 := broadcastInDim S2x65536x2x32 ![] bcast_S_S2x65536x2x32 main_cst_2
  let main_v11 : IVec S2x65536x2x32 1 := cmpf .olt main_v9 main_v10
  (main_v2, main_v5, main_v8, main_v11)
-- ==== Kernel.lean ====
abbrev S2x4096x1024 : Shape := ⟨3, ![2, 4096, 1024]⟩
abbrev S1024x32 : Shape := ⟨2, ![1024, 32]⟩
abbrev S1024x64 : Shape := ⟨2, ![1024, 64]⟩
abbrev S64x1024 : Shape := ⟨2, ![64, 1024]⟩
abbrev S1024x1 : Shape := ⟨2, ![1024, 1]⟩
abbrev S1 : Shape := ⟨1, ![1]⟩
abbrev S32x32 : Shape := ⟨2, ![32, 32]⟩
abbrev S2x32x16 : Shape := ⟨3, ![2, 32, 16]⟩
abbrev S2x65536x2x32 : Shape := ⟨4, ![2, 65536, 2, 32]⟩
abbrev S2x65536x2x64 : Shape := ⟨4, ![2, 65536, 2, 64]⟩
abbrev S8192x1024 : Shape := ⟨2, ![8192, 1024]⟩
abbrev S1024x129 : Shape := ⟨2, ![1024, 129]⟩
abbrev S_ : Shape := ⟨0, ![]⟩
abbrev S1024x256 : Shape := ⟨2, ![1024, 256]⟩
abbrev S32x2x16 : Shape := ⟨3, ![32, 2, 16]⟩
abbrev S32x128 : Shape := ⟨2, ![32, 128]⟩
abbrev S1x1 : Shape := ⟨2, ![1, 1]⟩
abbrev S8192x256 : Shape := ⟨2, ![8192, 256]⟩
abbrev S8192x8 : Shape := ⟨2, ![8192, 8]⟩
abbrev S512x1024 : Shape := ⟨2, ![512, 1024]⟩
abbrev S512x256 : Shape := ⟨2, ![512, 256]⟩
abbrev S512x8 : Shape := ⟨2, ![512, 8]⟩
abbrev S512x32 : Shape := ⟨2, ![512, 32]⟩
abbrev S512x64 : Shape := ⟨2, ![512, 64]⟩
abbrev S512x1 : Shape := ⟨2, ![512, 1]⟩
abbrev S512x128 : Shape := ⟨2, ![512, 128]⟩
abbrev S512x16 : Shape := ⟨2, ![512, 16]⟩
abbrev S512 : Shape := ⟨1, ![512]⟩
abbrev S512x63 : Shape := ⟨2, ![512, 63]⟩
abbrev S8192x2 : Shape := ⟨2, ![8192, 2]⟩
abbrev S2 : Shape := ⟨1, ![2]⟩
abbrev S1x2 : Shape := ⟨2, ![1, 2]⟩
abbrev S8192x2x1 : Shape := ⟨3, ![8192, 2, 1]⟩
abbrev S1x1x2 : Shape := ⟨3, ![1, 1, 2]⟩
abbrev S8192x2x2 : Shape := ⟨3, ![8192, 2, 2]⟩
abbrev S32768 : Shape := ⟨1, ![32768]⟩
abbrev S262144x32 : Shape := ⟨2, ![262144, 32]⟩
abbrev S262144x64 : Shape := ⟨2, ![262144, 64]⟩
abbrev S32768x1 : Shape := ⟨2, ![32768, 1]⟩
abbrev S32768x32 : Shape := ⟨2, ![32768, 32]⟩
abbrev S8192x128 : Shape := ⟨2, ![8192, 128]⟩
abbrev S32768x64 : Shape := ⟨2, ![32768, 64]⟩
abbrev S16384x128 : Shape := ⟨2, ![16384, 128]⟩
abbrev S16384 : Shape := ⟨1, ![16384]⟩
abbrev S262144x128 : Shape := ⟨2, ![262144, 128]⟩
abbrev S16384x1 : Shape := ⟨2, ![16384, 1]⟩
abbrev S32768x128 : Shape := ⟨2, ![32768, 128]⟩
abbrev S8192x512 : Shape := ⟨2, ![8192, 512]⟩
abbrev S512x512 : Shape := ⟨2, ![512, 512]⟩
abbrev S512x4 : Shape := ⟨2, ![512, 4]⟩

abbrev nBuf : Space → Nat
  | .hbm => 108
  | .vmem => 36
  | .smem => 1
  | _ => 0

abbrev bufTy : (tb : Table) → Fin (tcTables nBuf tb) → BufTy
  | .hbm, ⟨0, _⟩ => ⟨S2x4096x1024, .f32⟩
  | .hbm, ⟨1, _⟩ => ⟨S1024x32, .f32⟩
  | .hbm, ⟨2, _⟩ => ⟨S1024x32, .f32⟩
  | .hbm, ⟨3, _⟩ => ⟨S1024x64, .f32⟩
  | .hbm, ⟨4, _⟩ => ⟨S64x1024, .f32⟩
  | .hbm, ⟨5, _⟩ => ⟨S1024x1, .f32⟩
  | .hbm, ⟨6, _⟩ => ⟨S1, .f32⟩
  | .hbm, ⟨7, _⟩ => ⟨S32x32, .f32⟩
  | .hbm, ⟨8, _⟩ => ⟨S2x32x16, .f32⟩
  | .hbm, ⟨9, _⟩ => ⟨S2x65536x2x32, .f32⟩
  | .hbm, ⟨10, _⟩ => ⟨S2x65536x2x64, .f32⟩
  | .hbm, ⟨11, _⟩ => ⟨S2x65536x2x32, .f32⟩
  | .hbm, ⟨12, _⟩ => ⟨S8192x1024, .f32⟩
  | .hbm, ⟨13, _⟩ => ⟨S1024x129, .f32⟩
  | .hbm, ⟨14, _⟩ => ⟨S_, .i32⟩
  | .hbm, ⟨15, _⟩ => ⟨S_, .f32⟩
  | .hbm, ⟨16, _⟩ => ⟨S1024x256, .f32⟩
  | .hbm, ⟨17, _⟩ => ⟨S32x2x16, .f32⟩
  | .hbm, ⟨18, _⟩ => ⟨S32x32, .f32⟩
  | .hbm, ⟨19, _⟩ => ⟨S_, .i32⟩
  | .hbm, ⟨20, _⟩ => ⟨S_, .f32⟩
  | .hbm, ⟨21, _⟩ => ⟨S32x128, .f32⟩
  | .hbm, ⟨22, _⟩ => ⟨S_, .i32⟩
  | .hbm, ⟨23, _⟩ => ⟨S_, .f32⟩
  | .hbm, ⟨24, _⟩ => ⟨S32x128, .f32⟩
  | .hbm, ⟨25, _⟩ => ⟨S1x1, .f32⟩
  | .hbm, ⟨26, _⟩ => ⟨S8192x256, .f32⟩
  | .hbm, ⟨27, _⟩ => ⟨S8192x8, .i32⟩
  | .hbm, ⟨28, _⟩ => ⟨S8192x2, .i32⟩
  | .hbm, ⟨29, _⟩ => ⟨S2, .i32⟩
  | .hbm, ⟨30, _⟩ => ⟨S1x2, .i32⟩
  | .hbm, ⟨31, _⟩ => ⟨S_, .i32⟩
  | .hbm, ⟨32, _⟩ => ⟨S1x2, .i32⟩
  | .hbm, ⟨33, _⟩ => ⟨S1x2, .i32⟩
  | .hbm, ⟨34, _⟩ => ⟨S_, .i32⟩
  | .hbm, ⟨35, _⟩ => ⟨S8192x2, .i32⟩
  | .hbm, ⟨36, _⟩ => ⟨S8192x2, .i32⟩
  | .hbm, ⟨37, _⟩ => ⟨S8192x2, .i32⟩
  | .hbm, ⟨38, _⟩ => ⟨S8192x2, .i32⟩
  | .hbm, ⟨39, _⟩ => ⟨S8192x2x1, .i32⟩
  | .hbm, ⟨40, _⟩ => ⟨S2, .i32⟩
  | .hbm, ⟨41, _⟩ => ⟨S1x1x2, .i32⟩
  | .hbm, ⟨42, _⟩ => ⟨S8192x2x2, .i32⟩
  | .hbm, ⟨43, _⟩ => ⟨S8192x2x2, .i32⟩
  | .hbm, ⟨44, _⟩ => ⟨S8192x2x2, .i32⟩
  | .hbm, ⟨45, _⟩ => ⟨S32768, .i32⟩
  | .hbm, ⟨46, _⟩ => ⟨S262144x32, .f32⟩
  | .hbm, ⟨47, _⟩ => ⟨S262144x64, .f32⟩
  | .hbm, ⟨48, _⟩ => ⟨S262144x32, .f32⟩
  | .hbm, ⟨49, _⟩ => ⟨S_, .i32⟩
  | .hbm, ⟨50, _⟩ => ⟨S32768, .i32⟩
  | .hbm, ⟨51, _⟩ => ⟨S32768, .i1⟩
  | .hbm, ⟨52, _⟩ => ⟨S_, .i32⟩
  | .hbm, ⟨53, _⟩ => ⟨S32768, .i32⟩
  | .hbm, ⟨54, _⟩ => ⟨S32768, .i32⟩
  | .hbm, ⟨55, _⟩ => ⟨S32768, .i32⟩
  | .hbm, ⟨56, _⟩ => ⟨S32768x1, .i32⟩
  | .hbm, ⟨57, _⟩ => ⟨S32768x32, .f32⟩
  | .hbm, ⟨58, _⟩ => ⟨S8192x128, .f32⟩
  | .hbm, ⟨59, _⟩ => ⟨S_, .i32⟩
  | .hbm, ⟨60, _⟩ => ⟨S32768, .i32⟩
  | .hbm, ⟨61, _⟩ => ⟨S32768, .i1⟩
  | .hbm, ⟨62, _⟩ => ⟨S_, .i32⟩
  | .hbm, ⟨63, _⟩ => ⟨S32768, .i32⟩
  | .hbm, ⟨64, _⟩ => ⟨S32768, .i32⟩
  | .hbm, ⟨65, _⟩ => ⟨S32768, .i32⟩
  | .hbm, ⟨66, _⟩ => ⟨S32768x1, .i32⟩
  | .hbm, ⟨67, _⟩ => ⟨S32768x64, .f32⟩
  | .hbm, ⟨68, _⟩ => ⟨S8192x256, .f32⟩
  | .hbm, ⟨69, _⟩ => ⟨S_, .i32⟩
  | .hbm, ⟨70, _⟩ => ⟨S32768, .i32⟩
  | .hbm, ⟨71, _⟩ => ⟨S32768, .i1⟩
  | .hbm, ⟨72, _⟩ => ⟨S_, .i32⟩
  | .hbm, ⟨73, _⟩ => ⟨S32768, .i32⟩
  | .hbm, ⟨74, _⟩ => ⟨S32768, .i32⟩
  | .hbm, ⟨75, _⟩ => ⟨S32768, .i32⟩
  | .hbm, ⟨76, _⟩ => ⟨S32768x1, .i32⟩
  | .hbm, ⟨77, _⟩ => ⟨S32768x32, .f32⟩
  | .hbm, ⟨78, _⟩ => ⟨S8192x128, .f32⟩
  | .hbm, ⟨79, _⟩ => ⟨S8192x256, .f32⟩
  | .hbm, ⟨80, _⟩ => ⟨S8192x8, .i32⟩
  | .hbm, ⟨81, _⟩ => ⟨S8192x8, .f32⟩
  | .hbm, ⟨82, _⟩ => ⟨S16384x128, .f32⟩
  | .hbm, ⟨83, _⟩ => ⟨S8192x2, .i32⟩
  | .hbm, ⟨84, _⟩ => ⟨S16384, .i32⟩
  | .hbm, ⟨85, _⟩ => ⟨S_, .f32⟩
  | .hbm, ⟨86, _⟩ => ⟨S262144x128, .f32⟩
  | .hbm, ⟨87, _⟩ => ⟨S_, .i32⟩
  | .hbm, ⟨88, _⟩ => ⟨S16384, .i32⟩
  | .hbm, ⟨89, _⟩ => ⟨S16384, .i1⟩
  | .hbm, ⟨90, _⟩ => ⟨S_, .i32⟩
  | .hbm, ⟨91, _⟩ => ⟨S16384, .i32⟩
  | .hbm, ⟨92, _⟩ => ⟨S16384, .i32⟩
  | .hbm, ⟨93, _⟩ => ⟨S16384, .i32⟩
  | .hbm, ⟨94, _⟩ => ⟨S16384x1, .i32⟩
  | .hbm, ⟨95, _⟩ => ⟨S262144x128, .f32⟩
  | .hbm, ⟨96, _⟩ => ⟨S_, .i32⟩
  | .hbm, ⟨97, _⟩ => ⟨S32768, .i32⟩
  | .hbm, ⟨98, _⟩ => ⟨S32768, .i1⟩
  | .hbm, ⟨99, _⟩ => ⟨S_, .i32⟩
  | .hbm, ⟨100, _⟩ => ⟨S32768, .i32⟩
  | .hbm, ⟨101, _⟩ => ⟨S32768, .i32⟩
  | .hbm, ⟨102, _⟩ => ⟨S32768, .i32⟩
  | .hbm, ⟨103, _⟩ => ⟨S32768x1, .i32⟩
  | .hbm, ⟨104, _⟩ => ⟨S32768x128, .f32⟩
  | .hbm, ⟨105, _⟩ => ⟨S8192x512, .f32⟩
  | .hbm, ⟨106, _⟩ => ⟨S8192x1024, .f32⟩
  | .hbm, ⟨107, _⟩ => ⟨S2x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S32x128, .f32⟩
  | .local _ .vmem, ⟨4, _⟩ => ⟨S32x128, .f32⟩
  | .local _ .vmem, ⟨5, _⟩ => ⟨S512x256, .f32⟩
  | .local _ .vmem, ⟨6, _⟩ => ⟨S512x256, .f32⟩
  | .local _ .vmem, ⟨7, _⟩ => ⟨S512x8, .i32⟩
  | .local _ .vmem, ⟨8, _⟩ => ⟨S512x8, .i32⟩
  | .local _ .vmem, ⟨9, _⟩ => ⟨S512x256, .f32⟩
  | .local _ .vmem, ⟨10, _⟩ => ⟨S512x256, .f32⟩
  | .local _ .vmem, ⟨11, _⟩ => ⟨S512x8, .i32⟩
  | .local _ .vmem, ⟨12, _⟩ => ⟨S512x8, .i32⟩
  | .local _ .vmem, ⟨13, _⟩ => ⟨S512x128, .f32⟩
  | .local _ .vmem, ⟨14, _⟩ => ⟨S512x128, .f32⟩
  | .local _ .vmem, ⟨15, _⟩ => ⟨S512x256, .f32⟩
  | .local _ .vmem, ⟨16, _⟩ => ⟨S512x256, .f32⟩
  | .local _ .vmem, ⟨17, _⟩ => ⟨S512x128, .f32⟩
  | .local _ .vmem, ⟨18, _⟩ => ⟨S512x128, .f32⟩
  | .local _ .vmem, ⟨19, _⟩ => ⟨S512x256, .f32⟩
  | .local _ .vmem, ⟨20, _⟩ => ⟨S512x256, .f32⟩
  | .local _ .vmem, ⟨21, _⟩ => ⟨S512x8, .i32⟩
  | .local _ .vmem, ⟨22, _⟩ => ⟨S512x8, .i32⟩
  | .local _ .vmem, ⟨23, _⟩ => ⟨S512x8, .f32⟩
  | .local _ .vmem, ⟨24, _⟩ => ⟨S512x8, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | .local _ .vmem, ⟨29, _⟩ => ⟨S512x512, .f32⟩
  | .local _ .vmem, ⟨30, _⟩ => ⟨S512x512, .f32⟩
  | .local _ .vmem, ⟨31, _⟩ => ⟨S512x8, .f32⟩
  | .local _ .vmem, ⟨32, _⟩ => ⟨S512x8, .f32⟩
  | .local _ .vmem, ⟨33, _⟩ => ⟨S64x1024, .f32⟩
  | .local _ .vmem, ⟨34, _⟩ => ⟨S512x1024, .f32⟩
  | .local _ .vmem, ⟨35, _⟩ => ⟨S512x1024, .f32⟩
  | .local _ .smem, ⟨0, _⟩ => ⟨S1x1, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_call1_v0 : Ref sig .tc := ⟨.hbm, 20, rfl⟩
abbrev main_v5 : Ref sig .tc := ⟨.hbm, 21, rfl⟩
abbrev main_c_1 : Ref sig .tc := ⟨.hbm, 22, rfl⟩
abbrev main_call2_v0 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_8 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52_0 : Ref sig .tc := ⟨.hbm, 79, rfl⟩
abbrev main_v52_1 : Ref sig .tc := ⟨.hbm, 80, rfl⟩
abbrev main_v52_2 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst : Ref sig .tc := ⟨.hbm, 85, rfl⟩
abbrev main_v56 : Ref sig .tc := ⟨.hbm, 86, rfl⟩
abbrev main_c_10 : Ref sig .tc := ⟨.hbm, 87, rfl⟩
abbrev main_v57 : Ref sig .tc := ⟨.hbm, 88, rfl⟩
abbrev main_v58 : Ref sig .tc := ⟨.hbm, 89, rfl⟩
abbrev main_c_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_12 : Ref sig .tc := ⟨.hbm, 96, rfl⟩
abbrev main_v64 : Ref sig .tc := ⟨.hbm, 97, rfl⟩
abbrev main_v65 : Ref sig .tc := ⟨.hbm, 98, rfl⟩
abbrev main_c_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem5_1 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x8 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x8 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== KernelIdeal.lean ====
variable {F : FTy → Type} [FloatOps F] [Named F]
def κ : String → Option EReal := fun
  | "rsq" => some (((Real.sqrt 32)⁻¹ : ℝ) : EReal)
  | _ => none
-- ==== ReferenceIdeal.lean ====
abbrev S2x4096x1024 : Shape := ⟨3, ![2, 4096, 1024]⟩
abbrev S1024x32 : Shape := ⟨2, ![1024, 32]⟩
abbrev S1024x64 : Shape := ⟨2, ![1024, 64]⟩
abbrev S64x1024 : Shape := ⟨2, ![64, 1024]⟩
abbrev S1024x1 : Shape := ⟨2, ![1024, 1]⟩
abbrev S1 : Shape := ⟨1, ![1]⟩
abbrev S32x32 : Shape := ⟨2, ![32, 32]⟩
abbrev S2x32x16 : Shape := ⟨3, ![2, 32, 16]⟩
abbrev S2x65536x2x32 : Shape := ⟨4, ![2, 65536, 2, 32]⟩
abbrev S2x65536x2x64 : Shape := ⟨4, ![2, 65536, 2, 64]⟩
abbrev S8192x1024 : Shape := ⟨2, ![8192, 1024]⟩
abbrev S8192x32 : Shape := ⟨2, ![8192, 32]⟩
abbrev S8192x2x16 : Shape := ⟨3, ![8192, 2, 16]⟩
abbrev S_ : Shape := ⟨0, ![]⟩
abbrev S16 : Shape := ⟨1, ![16]⟩
abbrev S1x1x16 : Shape := ⟨3, ![1, 1, 16]⟩
abbrev S8192x2 : Shape := ⟨2, ![8192, 2]⟩
abbrev S2 : Shape := ⟨1, ![2]⟩
abbrev S1x2 : Shape := ⟨2, ![1, 2]⟩
abbrev S8192x64 : Shape := ⟨2, ![8192, 64]⟩
abbrev S8192x1 : Shape := ⟨2, ![8192, 1]⟩
abbrev S1x1 : Shape := ⟨2, ![1, 1]⟩
abbrev S8192x1x1 : Shape := ⟨3, ![8192, 1, 1]⟩
abbrev S8192x2x1 : Shape := ⟨3, ![8192, 2, 1]⟩
abbrev S8192x2x2 : Shape := ⟨3, ![8192, 2, 2]⟩
abbrev S8192x2x2x32 : Shape := ⟨4, ![8192, 2, 2, 32]⟩
abbrev S8192x1x32 : Shape := ⟨3, ![8192, 1, 32]⟩
abbrev S8192x2x3 : Shape := ⟨3, ![8192, 2, 3]⟩
abbrev S8192x2x32 : Shape := ⟨3, ![8192, 2, 32]⟩
abbrev S8192x1x64 : Shape := ⟨3, ![8192, 1, 64]⟩
abbrev S8192x2x64 : Shape := ⟨3, ![8192, 2, 64]⟩
abbrev S8192x4 : Shape := ⟨2, ![8192, 4]⟩
abbrev S8192 : Shape := ⟨1, ![8192]⟩
abbrev S8192x2x2x64 : Shape := ⟨4, ![8192, 2, 2, 64]⟩

abbrev nBuf : Space → Nat
  | .hbm => 160
  | .vmem => 0
  | .smem => 0
  | _ => 0

abbrev hbmTy0_0 (i : Nat) : BufTy := match i % 128 with
  | 0 => ⟨S2x4096x1024, .f32⟩
  | 1 => ⟨S1024x32, .f32⟩
  | 2 => ⟨S1024x32, .f32⟩
  | 3 => ⟨S1024x64, .f32⟩
  | 4 => ⟨S64x1024, .f32⟩
  | 5 => ⟨S1024x1, .f32⟩
  | 6 => ⟨S1, .f32⟩
  | 7 => ⟨S32x32, .f32⟩
  | 8 => ⟨S2x32x16, .f32⟩
  | 9 => ⟨S2x65536x2x32, .f32⟩
  | 10 => ⟨S2x65536x2x64, .f32⟩
  | 11 => ⟨S2x65536x2x32, .f32⟩
  | 12 => ⟨S8192x1024, .f32⟩
  | 13 => ⟨S8192x32, .f32⟩
  | 14 => ⟨S8192x2x16, .f32⟩
  | 15 => ⟨S_, .f32⟩
  | 16 => ⟨S8192x2x16, .f32⟩
  | 17 => ⟨S8192x2x16, .i1⟩
  | 18 => ⟨S8192x2x16, .i32⟩
  | 19 => ⟨S16, .i32⟩
  | 20 => ⟨S_, .i32⟩
  | 21 => ⟨S16, .i32⟩
  | 22 => ⟨S16, .i32⟩
  | 23 => ⟨S1x1x16, .i32⟩
  | 24 => ⟨S8192x2x16, .i32⟩
  | 25 => ⟨S8192x2x16, .i32⟩
  | 26 => ⟨S_, .i32⟩
  | 27 => ⟨S8192x2, .i32⟩
  | 28 => ⟨S2, .i32⟩
  | 29 => ⟨S1x2, .i32⟩
  | 30 => ⟨S8192x2, .i32⟩
  | 31 => ⟨S8192x32, .f32⟩
  | 32 => ⟨S8192x64, .f32⟩
  | 33 => ⟨S8192x1, .f32⟩
  | 34 => ⟨S1x1, .f32⟩
  | 35 => ⟨S8192x1, .f32⟩
  | 36 => ⟨S8192x1, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192x1, .f32⟩
  | 47 => ⟨S8192x1, .i1⟩
  | 48 => ⟨S_, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1x1, .f32⟩
  | 56 => ⟨S8192x32, .f32⟩
  | 57 => ⟨S8192x32, .f32⟩
  | 58 => ⟨S8192x2x1, .i32⟩
  | 59 => ⟨S8192x2x1, .i32⟩
  | 60 => ⟨S8192x2x2, .i32⟩
  | 61 => ⟨S8192x2x2x32, .f32⟩
  | 62 => ⟨S8192x2x2, .f32⟩
  | 63 => ⟨S_, .f32⟩
  | 64 => ⟨S_, .f32⟩
  | 65 => ⟨S8192x2x2, .f32⟩
  | 66 => ⟨S8192x2x2, .f32⟩
  | 67 => ⟨S8192x2x2, .i32⟩
  | 68 => ⟨S_, .f32⟩
  | 69 => ⟨S_, .i32⟩
  | 70 => ⟨S8192x2, .f32⟩
  | 71 => ⟨S8192x2, .i32⟩
  | 72 => ⟨S8192x1x32, .f32⟩
  | 73 => ⟨S8192x2x1, .i32⟩
  | 74 => ⟨S8192x2x1, .i32⟩
  | 75 => ⟨S8192x2x1, .i32⟩
  | 76 => ⟨S8192x2x3, .i32⟩
  | 77 => ⟨S8192x2x32, .f32⟩
  | 78 => ⟨S8192x2x32, .f32⟩
  | 79 => ⟨S8192x2x32, .f32⟩
  | 80 => ⟨S8192x2x32, .f32⟩
  | 81 => ⟨S8192x2x32, .f32⟩
  | 82 => ⟨S8192x2x1, .i32⟩
  | 83 => ⟨S8192x2x1, .i32⟩
  | 84 => ⟨S8192x2x1, .i32⟩
  | 85 => ⟨S8192x2x3, .i32⟩
  | 86 => ⟨S2x65536x2x32, .f32⟩
  | 87 => ⟨S8192x1x64, .f32⟩
  | 88 => ⟨S8192x2x1, .i32⟩
  | 89 => ⟨S8192x2x1, .i32⟩
  | 90 => ⟨S8192x2x1, .i32⟩
  | 91 => ⟨S8192x2x3, .i32⟩
  | 92 => ⟨S8192x2x64, .f32⟩
  | 93 => ⟨S8192x2x64, .f32⟩
  | 94 => ⟨S8192x2x64, .f32⟩
  | 95 => ⟨S8192x2x64, .f32⟩
  | 96 => ⟨S8192x2x64, .f32⟩
  | 97 => ⟨S8192x2x1, .i32⟩
  | 98 => ⟨S8192x2x1, .i32⟩
  | 99 => ⟨S8192x2x1, .i32⟩
  | 100 => ⟨S8192x2x3, .i32⟩
  | 101 => ⟨S2x65536x2x64, .f32⟩
  | 102 => ⟨S8192x1x32, .f32⟩
  | 103 => ⟨S8192x2x1, .i32⟩
  | 104 => ⟨S8192x2x1, .i32⟩
  | 105 => ⟨S8192x2x1, .i32⟩
  | 106 => ⟨S8192x2x3, .i32⟩
  | 107 => ⟨S8192x2x32, .f32⟩
  | 108 => ⟨S8192x2x32, .f32⟩
  | 109 => ⟨S8192x2x32, .f32⟩
  | 110 => ⟨S8192x2x32, .f32⟩
  | 111 => ⟨S8192x2x32, .f32⟩
  | 112 => ⟨S8192x2x1, .i32⟩
  | 113 => ⟨S8192x2x1, .i32⟩
  | 114 => ⟨S8192x2x1, .i32⟩
  | 115 => ⟨S8192x2x3, .i32⟩
  | 116 => ⟨S2x65536x2x32, .f32⟩
  | 117 => ⟨S8192x32, .f32⟩
  | 118 => ⟨S8192x32, .f32⟩
  | 119 => ⟨S8192x2x1, .i32⟩
  | 120 => ⟨S8192x2x1, .i32⟩
  | 121 => ⟨S8192x2x2, .i32⟩
  | 122 => ⟨S8192x2x2x32, .f32⟩
  | 123 => ⟨S8192x2x2, .f32⟩
  | 124 => ⟨S_, .f32⟩
  | 125 => ⟨S_, .f32⟩
  | 126 => ⟨S8192x2x2, .f32⟩
  | 127 => ⟨S8192x2x2, .f32⟩
  | _ => ⟨S2x4096x1024, .f32⟩

abbrev hbmTy0_1 (i : Nat) : BufTy := match i % 128 with
  | 0 => ⟨S8192x2x1, .i32⟩
  | 1 => ⟨S8192x2x1, .i32⟩
  | 2 => ⟨S8192x2x2, .i32⟩
  | 3 => ⟨S8192x2x2x32, .f32⟩
  | 4 => ⟨S8192x2x2, .f32⟩
  | 5 => ⟨S_, .f32⟩
  | 6 => ⟨S8192x2x2, .f32⟩
  | 7 => ⟨S8192x2x2, .f32⟩
  | 8 => ⟨S8192x2x2, .f32⟩
  | 9 => ⟨S8192x4, .f32⟩
  | 10 => ⟨S_, .f32⟩
  | 11 => ⟨S8192, .f32⟩
  | 12 => ⟨S_, .f32⟩
  | 13 => ⟨S8192, .f32⟩
  | 14 => ⟨S8192, .f32⟩
  | 15 => ⟨S8192x1, .f32⟩
  | 16 => ⟨S8192x4, .f32⟩
  | 17 => ⟨S8192x4, .f32⟩
  | 18 => ⟨S8192x4, .f32⟩
  | 19 => ⟨S_, .f32⟩
  | 20 => ⟨S8192, .f32⟩
  | 21 => ⟨S8192x1, .f32⟩
  | 22 => ⟨S8192x4, .f32⟩
  | 23 => ⟨S8192x4, .f32⟩
  | 24 => ⟨S8192x2x2, .f32⟩
  | 25 => ⟨S8192x2x1, .i32⟩
  | 26 => ⟨S8192x2x1, .i32⟩
  | 27 => ⟨S8192x2x2, .i32⟩
  | 28 => ⟨S8192x2x2x64, .f32⟩
  | 29 => ⟨S8192x64, .f32⟩
  | 30 => ⟨S8192x1024, .f32⟩
  | 31 => ⟨S2x4096x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_call0_v0 : Ref sig .tc := ⟨.hbm, 49, rfl⟩
abbrev main_call0_v1 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_v0 : Ref sig .tc := ⟨.hbm, 67, rfl⟩
abbrev main_call1_cst : Ref sig .tc := ⟨.hbm, 68, rfl⟩
abbrev main_call1_c : Ref sig .tc := ⟨.hbm, 69, rfl⟩
abbrev main_call1_v1_0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_7 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_8 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_9 : Ref sig .tc := ⟨.hbm, 138, rfl⟩
abbrev main_v109 : Ref sig .tc := ⟨.hbm, 139, rfl⟩
abbrev main_cst_10 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_11 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩

abbrev nD : Nat := 1
abbrev τ : Topo := Topo.v7x

variable {F : FTy → Type} [FloatOps F]
-- ==== Proof.KRun.lean ====
module

public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds

namespace Cert.KernelIdeal.Val

open Cert.KernelIdeal Cert.KernelIdeal.Gen

variable {F : FTy → Type} [FloatOps F] [Named F]
variable (m : (ℓ : Loc nD τ sig) → Buf (Elt F) ℓ) (ρ : Dev nD → PrngReg)

set_option backward.isDefEq.respectTransparency.types false in
/-- Every run of the program ends, and leaves every buffer of the host at its contents after the last stretch. -/
theorem run_all : θ_run defs (onTc (τ := τ) (main (F := F))) ⟨m, fun _ => 0, ρ⟩ fun r =>
    ∀ (c : Dev nD), ∀ b ∈ Pipeline.ucRefs τ sig, r.2.mem ((c : Thread nD τ).1, b) = W13 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h _ => h)

/-- The program's result buffer after a run. -/
theorem run_out : θ_run defs (onTc (τ := τ) (main (F := F))) ⟨m, fun _ => 0, ρ⟩ fun r =>
    ∀ c : Dev nD, r.2.mem ((c.tc : Thread nD τ).loc main_v73) = W13 m ρ c (Proc.devRef .tc main_v73) :=
  (θ_run defs _ _).mono (fun _ h c => h c _ (mem_uc main_v73 (by decide))) (run_all m ρ)

end Cert.KernelIdeal.Val

end
-- ==== Proof.R0.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The token windows of the first call move down their arrays one block of 512 rows per point; the weights stay. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- The point whose blocks hold row `n`. -/
def pt0 (n : Fin 8192) : Fin cfg0.N := ⟨n.val / 512, by have := n.isLt; show n.val / 512 < 16; omega⟩

/-- The row of its block that holds row `n`. -/
def rw0 (n : Fin 8192) : Fin 512 := ⟨n.val % 512, Nat.mod_lt _ (by decide)⟩

/-- The one-element shape has one index. -/
theorem sub11 (a b : S1x1.Idx) : a = b := by
  idx_vars a
  idx_vars b
  blk_ext []

/-- The features' block over the input blocks. -/
def p0_5 (x0 : Vec Ideal S512x1024 .f32) (x1 : Vec Ideal S1024x256 .f32) (x3 : Vec Ideal S32x128 .f32)
    (x4 : Vec Ideal S1x1 .f32) : Vec Ideal S512x256 .f32 :=
  k0_pay1 (k0_pay4 x0 x1) (k0_pay5 x0 x1) (k0_pay6 x0 x1) (k0_pay7 x0 x1 (x4 (ix2 0 0))) x3

/-- The buckets' block over the input blocks. -/
def p0_6 (x0 : Vec Ideal S512x1024 .f32) (x1 : Vec Ideal S1024x256 .f32) (x2 : Vec Ideal S32x128 .f32) : Vec Ideal S512x8 .i32 :=
  k0_pay2 (k0_pay9 x0 x1 x2) (k0_pay10 x0 x1 x2)

/-- What the body leaves in the features' buffer. -/
theorem out0_A_5_eq (c : Dev nD) (i : grid0.Coords) (arg1 : Memref sig .tc .vmem S512x1024 .f32) (harg1 : arg1.IsWhole) (arg2 : Memref sig .tc .vmem S1024x256 .f32) (harg2 : arg2.IsWhole)
    (arg3 : Memref sig .tc .vmem S32x128 .f32) (harg3 : arg3.IsWhole) (arg4 : Memref sig .tc .vmem S32x128 .f32) (harg4 : arg4.IsWhole)
    (arg5 : Memref sig .tc .smem S1x1 .f32) (harg5 : arg5.IsWhole) (arg6 : Memref sig .tc .vmem S512x256 .f32) (harg6 : arg6.IsWhole)
    (arg7 : Memref sig .tc .vmem S512x8 .i32) (harg7 : arg7.IsWhole)
    (x0 : Vec Ideal S512x1024 .f32) (x1 : Vec Ideal S1024x256 .f32) (x2 : Vec Ideal S32x128 .f32) (x3 : Vec Ideal S32x128 .f32)
    (x4 : Vec Ideal S1x1 .f32) : out0_A_5 c i arg1 harg1 arg2 harg2 arg3 harg3 arg4 harg4 arg5 harg5 arg6 harg6 arg7 harg7 x0 x1 x2 x3 x4 = p0_5 x0 x1 x3 x4 := by
  funext y
  frame_out
  unfold p0_5
  first | done | rfl | exact congrArg (fun z => k0_pay1 (k0_pay4 x0 x1) (k0_pay5 x0 x1) (k0_pay6 x0 x1) (k0_pay7 x0 x1 z) x3 y) (congrArg x4 (sub11 _ _))

/-- Row `n` of the features is its row of the block its point computes. -/
theorem final0_5 (c : Dev nD) (n : Fin 8192) (k : Fin 256) :
    ((dat0 V c).arrAt 5 cfg0.N : FVec Ideal S8192x256 .f32) (ix2 n k) = p0_5 (iblk0 V c 0 (pt0 n)) (iblk0 V c 1 (pt0 n)) (iblk0 V c 3 (pt0 n)) (iblk0 V c 4 (pt0 n)) (ix2 (rw0 n) k) := by
  have h : (dat0 V c).arrAt 5 cfg0.N = (fun j : S8192x256.Idx =>
      p0_5 (iblk0 V c 0 (pt0 (j 0))) (iblk0 V c 1 (pt0 (j 0))) (iblk0 V c 3 (pt0 (j 0))) (iblk0 V c 4 (pt0 (j 0))) (ix2 (rw0 (j 0)) (j 1))) := by
    refine (dat0 V c).arrAt_eq_of_covers 5 _ (by decide +kernel) fun t _ y => ?_
    have e0 : pt0 ((((cfg0.win 5).blk t).view.emb y : S8192x256.Idx) 0) = t := by
      apply Fin.ext
      show ((((cfg0.win 5).blk t).view.emb y : S8192x256.Idx) 0).val / 512 = t.val
      blk_simp [idx0 t]
      idx_bounds
      omega
    have e1 : ix2 (rw0 ((((cfg0.win 5).blk t).view.emb y : S8192x256.Idx) 0)) ((((cfg0.win 5).blk t).view.emb y : S8192x256.Idx) 1) = y := by
      funext a
      apply Fin.ext
      fin_cases a
      · show ((((cfg0.win 5).blk t).view.emb y : S8192x256.Idx) 0).val % 512 = (y 0).val
        blk_simp [idx0 t]
        idx_bounds
        omega
      · show ((((cfg0.win 5).blk t).view.emb y : S8192x256.Idx) 1).val = (y 1).val
        blk_simp [idx0 t]
    have e2 := congr (congrArg (fun (t' : Fin cfg0.N) (y' : S512x256.Idx) => p0_5 (iblk0 V c 0 t') (iblk0 V c 1 t') (iblk0 V c 3 t') (iblk0 V c 4 t') y') e0.symm) e1.symm
    blk_simp
    rw [after0_5, outsAt0]
    dsimp only
    rw [out0_A_5_eq]
    exact e2
  rw [h]
  rfl

/-- What the body leaves in the buckets' buffer. -/
theorem out0_A_6_eq (c : Dev nD) (i : grid0.Coords) (arg1 : Memref sig .tc .vmem S512x1024 .f32) (harg1 : arg1.IsWhole) (arg2 : Memref sig .tc .vmem S1024x256 .f32) (harg2 : arg2.IsWhole)
    (arg3 : Memref sig .tc .vmem S32x128 .f32) (harg3 : arg3.IsWhole) (arg4 : Memref sig .tc .vmem S32x128 .f32) (harg4 : arg4.IsWhole)
    (arg5 : Memref sig .tc .smem S1x1 .f32) (harg5 : arg5.IsWhole) (arg6 : Memref sig .tc .vmem S512x256 .f32) (harg6 : arg6.IsWhole)
    (arg7 : Memref sig .tc .vmem S512x8 .i32) (harg7 : arg7.IsWhole)
    (x0 : Vec Ideal S512x1024 .f32) (x1 : Vec Ideal S1024x256 .f32) (x2 : Vec Ideal S32x128 .f32) (x3 : Vec Ideal S32x128 .f32)
    (x4 : Vec Ideal S1x1 .f32) : out0_A_6 c i arg1 harg1 arg2 harg2 arg3 harg3 arg4 harg4 arg5 harg5 arg6 harg6 arg7 harg7 x0 x1 x2 x3 x4 = p0_6 x0 x1 x2 := by
  funext y
  frame_out
  unfold p0_6
  first | done | rfl | exact congrArg (fun z => k0_pay1 (k0_pay4 x0 x1) (k0_pay5 x0 x1) (k0_pay6 x0 x1) (k0_pay7 x0 x1 z) x3 y) (congrArg x4 (sub11 _ _))

/-- Row `n` of the buckets is its row of the block its point computes. -/
theorem final0_6 (c : Dev nD) (n : Fin 8192) (k : Fin 8) :
    ((dat0 V c).arrAt 6 cfg0.N : IVec S8192x8 32) (ix2 n k) = p0_6 (iblk0 V c 0 (pt0 n)) (iblk0 V c 1 (pt0 n)) (iblk0 V c 2 (pt0 n)) (ix2 (rw0 n) k) := by
  have h : (dat0 V c).arrAt 6 cfg0.N = (fun j : S8192x8.Idx =>
      p0_6 (iblk0 V c 0 (pt0 (j 0))) (iblk0 V c 1 (pt0 (j 0))) (iblk0 V c 2 (pt0 (j 0))) (ix2 (rw0 (j 0)) (j 1))) := by
    refine (dat0 V c).arrAt_eq_of_covers 6 _ (by decide +kernel) fun t _ y => ?_
    have e0 : pt0 ((((cfg0.win 6).blk t).view.emb y : S8192x8.Idx) 0) = t := by
      apply Fin.ext
      show ((((cfg0.win 6).blk t).view.emb y : S8192x8.Idx) 0).val / 512 = t.val
      blk_simp [idx0 t]
      idx_bounds
      omega
    have e1 : ix2 (rw0 ((((cfg0.win 6).blk t).view.emb y : S8192x8.Idx) 0)) ((((cfg0.win 6).blk t).view.emb y : S8192x8.Idx) 1) = y := by
      funext a
      apply Fin.ext
      fin_cases a
      · show ((((cfg0.win 6).blk t).view.emb y : S8192x8.Idx) 0).val % 512 = (y 0).val
        blk_simp [idx0 t]
        idx_bounds
        omega
      · show ((((cfg0.win 6).blk t).view.emb y : S8192x8.Idx) 1).val = (y 1).val
        blk_simp [idx0 t]
    have e2 := congr (congrArg (fun (t' : Fin cfg0.N) (y' : S512x8.Idx) => p0_6 (iblk0 V c 0 t') (iblk0 V c 1 t') (iblk0 V c 2 t') y') e0.symm) e1.symm
    blk_simp
    rw [after0_6, outsAt0]
    dsimp only
    rw [out0_A_6_eq]
    exact e2
  rw [h]
  rfl

end Cert.KernelIdeal.Val
-- ==== Proof.Spec.lean ====
module

public import Idealize.ShloMosaic.Lib.Pipeline.ValueKit
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.Spec

open Idealize.ShloMosaic

/-- The arguments' elements: the tokens, the projections, the hyperplanes and the memory. -/
structure In where
  x : Fin 8192 → Fin 1024 → EReal
  wq : Fin 1024 → Fin 32 → EReal
  wk : Fin 1024 → Fin 32 → EReal
  wv : Fin 1024 → Fin 64 → EReal
  wo : Fin 64 → Fin 1024 → EReal
  wg : Fin 1024 → EReal
  bg : EReal
  wt : Fin 32 → Fin 32 → EReal
  rb : Fin 2 → Fin 32 → Fin 16 → EReal
  K : Fin 2 → Fin 65536 → Fin 2 → Fin 32 → EReal
  V : Fin 2 → Fin 65536 → Fin 2 → Fin 64 → EReal
  T : Fin 2 → Fin 65536 → Fin 2 → Fin 32 → EReal

variable (I : In)

/-- A token's tag. -/
def tag (n : Fin 8192) (k : Fin 32) : EReal := ∑ c, I.x n c * I.wq c k
/-- A token's write key. -/
def wkey (n : Fin 8192) (k : Fin 32) : EReal := ∑ c, I.x n c * I.wk c k
/-- A token's value. -/
def val (n : Fin 8192) (k : Fin 64) : EReal := ∑ c, I.x n c * I.wv c k
/-- A token's gate. -/
def gate (n : Fin 8192) : EReal := Ideal.logistic (∑ c, I.x n c * I.wg c + I.bg)
/-- The step a token's write takes: the learning rate times the gate, or nothing below the threshold. -/
def gE (n : Fin 8192) : EReal :=
  Ideal.ofBits .f32 0x3DCCCCCD#32 * (if Ideal.ofBits .f32 0x3F000000#32 < gate I n then gate I n else 0)
/-- A token's write tag. -/
def wtag (n : Fin 8192) (k : Fin 32) : EReal := Ideal.tanh (∑ j, wkey I n j * I.wt j k)
/-- A token's read tag. -/
def qtag (n : Fin 8192) (k : Fin 32) : EReal := Ideal.tanh (∑ j, tag I n j * I.wt j k)
/-- The number a token's sign bits spell for one hash. -/
def bits (n : Fin 8192) (h : Fin 2) : Nat := ∑ b : Fin 16, if 0 < ∑ k, tag I n k * I.rb h k b then 2 ^ b.val else 0

theorem bits_lt (n : Fin 8192) (h : Fin 2) : bits I n h < 65536 := by
  have : bits I n h ≤ ∑ b : Fin 16, 2 ^ b.val := Finset.sum_le_sum fun b _ => by split <;> simp
  have e : (∑ b : Fin 16, 2 ^ b.val) = 65535 := by decide
  omega

/-- A token's bucket for one hash. -/
def bk (n : Fin 8192) (h : Fin 2) : Fin 65536 := ⟨bits I n h, bits_lt I n h⟩
/-- How well a slot's key matches the write key, before scaling. -/
def mat (n : Fin 8192) (h a : Fin 2) : EReal := ∑ k, I.K h (bk I n h) a k * wkey I n k
/-- The matched slot: the first of the best. -/
def sl (n : Fin 8192) (h : Fin 2) : Fin 2 := if mat I n h 0 < mat I n h 1 then 1 else 0
/-- What a token adds to its slot's key. -/
def dK (n : Fin 8192) (h : Fin 2) (k : Fin 32) : EReal := gE I n * (wkey I n k - I.K h (bk I n h) (sl I n h) k)
/-- What a token adds to its slot's value. -/
def dV (n : Fin 8192) (h : Fin 2) (k : Fin 64) : EReal := gE I n * (val I n k - I.V h (bk I n h) (sl I n h) k)
/-- What a token adds to its slot's tag. -/
def dT (n : Fin 8192) (h : Fin 2) (k : Fin 32) : EReal := gE I n * (wtag I n k - I.T h (bk I n h) (sl I n h) k)
/-- The sum over the tokens whose slot this is. -/
def acc (f : Fin 8192 → EReal) (h : Fin 2) (i : Fin 65536) (a : Fin 2) : EReal :=
  ∑ n : Fin 8192, if bk I n h = i ∧ sl I n h = a then f n else 0
/-- The updated key of a slot of a token's bucket. -/
def K2 (n : Fin 8192) (h a : Fin 2) (k : Fin 32) : EReal :=
  I.K h (bk I n h) a k + acc I (fun n' => dK I n' h k) h (bk I n h) a
/-- The updated value of a slot of a token's bucket. -/
def V2 (n : Fin 8192) (h a : Fin 2) (k : Fin 64) : EReal :=
  I.V h (bk I n h) a k + acc I (fun n' => dV I n' h k) h (bk I n h) a
/-- The updated tag of a slot of a token's bucket. -/
def T2 (n : Fin 8192) (h a : Fin 2) (k : Fin 32) : EReal :=
  I.T h (bk I n h) a k + acc I (fun n' => dT I n' h k) h (bk I n h) a
/-- The hash of the `q`-th slot a token reads. -/
abbrev hq (q : Fin 4) : Fin 2 := ⟨q.val / 2, by omega⟩
/-- The slot of the `q`-th slot a token reads. -/
abbrev aq (q : Fin 4) : Fin 2 := ⟨q.val % 2, by omega⟩
/-- The attention logit of a token's `q`-th slot. -/
def logit (n : Fin 8192) (q : Fin 4) : EReal :=
  Ideal.div (∑ k, K2 I n (hq q) (aq q) k * tag I n k) ((Real.sqrt 32 : ℝ) : EReal) + ∑ k, T2 I n (hq q) (aq q) k * qtag I n k
/-- The weight of slot `q` under the softmax of the logits `l`. -/
def soft (l : Fin 4 → EReal) (q : Fin 4) : EReal :=
  Ideal.div (Ideal.exp (l q - Finset.univ.fold max ⊥ l)) (∑ p, Ideal.exp (l p - Finset.univ.fold max ⊥ l))
/-- What a token reads. -/
def read (n : Fin 8192) (v : Fin 64) : EReal := ∑ q, soft (logit I n) q * V2 I n (hq q) (aq q) v
/-- A token's output. -/
def out (n : Fin 8192) (j : Fin 1024) : EReal := ∑ v, read I n v * I.wo v j

/-- A sum of small numbers' words is the word of the sum. -/
theorem fold_addi {ι : Type} [DecidableEq ι] (s : Finset ι) (g : ι → Nat) (f : ι → BitVec 32) (hf : ∀ b, f b = BitVec.ofNat 32 (g b)) :
    s.fold IntOp.addi (0#32) f = BitVec.ofNat 32 (∑ b ∈ s, g b) := by
  induction s using Finset.induction_on with
  | empty => rfl
  | insert b s hb ih =>
    rw [Finset.fold_insert hb, Finset.sum_insert hb, ih, hf, BitVec.ofNat_add]
    rfl

/-- Dividing by the root keeps the order of the matches. -/
theorem div_sqrt_lt (a b : EReal) : Ideal.div a ((Real.sqrt 32 : ℝ) : EReal) < Ideal.div b ((Real.sqrt 32 : ℝ) : EReal) ↔ a < b := by
  have hp : 0 < Real.sqrt 32 := Real.sqrt_pos.mpr (by norm_num)
  rw [Ideal.div_coe hp.ne', Ideal.div_coe hp.ne']
  have hq : 0 < 1 / Real.sqrt 32 := by positivity
  have key : ∀ a b : EReal, a < b → a * ((1 / Real.sqrt 32 : ℝ) : EReal) < b * ((1 / Real.sqrt 32 : ℝ) : EReal) := fun a b h => by
    have hs := (EReal.strictMono_div_right_of_pos (b := ((Real.sqrt 32 : ℝ) : EReal)) (by exact_mod_cast hp) (EReal.coe_ne_top _)) h
    simpa [EReal.div_eq_inv_mul, mul_comm, one_div, EReal.coe_inv] using hs
  refine ⟨fun h => ?_, key a b⟩
  by_contra hn
  rcases (not_lt.mp hn).lt_or_eq with h' | h'
  · exact absurd h (not_lt.mpr (key b a h').le)
  · rw [h'] at h; exact lt_irrefl _ h

end Cert.Spec

end
-- ==== Proof.K0.lean ====
module

public import proofs.«01_k».proof.Proof.R0
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

/-- A product of extended reals, whatever their printed type. -/
abbrev mu (a b : EReal) : EReal := a * b

section
variable (x0 : Vec Ideal S512x1024 .f32) (x1 : Vec Ideal S1024x256 .f32) (x2 x3 : Vec Ideal S32x128 .f32) (x4 : Vec Ideal S1x1 .f32) (r : Fin 512)

/-- The first call's product of the tokens and the weights side by side. -/
def pr (k : Fin 256) : EReal := ∑ c : Fin 1024, mu (x0 (ix2 r c)) (x1 (ix2 c k))

theorem pay3_at (k : Fin 256) : (k0_pay3 x0 x1 (ix2 r k) : EReal) = pr x0 x1 r k := by
  pointwise [k0_pay3]
  rfl

theorem f_tag0 (k : Fin 32) : (p0_5 x0 x1 x3 x4 (ix2 r ⟨k.val, by omega⟩) : EReal) = pr x0 x1 r ⟨k.val, by omega⟩ := by
  pointwise [p0_5, k0_pay1, k0_pay4]
  exact pay3_at x0 x1 r _

theorem pay5_at (k : Fin 32) : (k0_pay5 x0 x1 (ix2 r k) : EReal) = pr x0 x1 r ⟨32 + k.val, by omega⟩ := by
  pointwise [k0_pay5]
  exact pay3_at x0 x1 r _

theorem pay4_at (k : Fin 32) : (k0_pay4 x0 x1 (ix2 r k) : EReal) = pr x0 x1 r ⟨k.val, by omega⟩ := by
  pointwise [k0_pay4]
  exact pay3_at x0 x1 r _

theorem f_wkey0 (k : Fin 32) : (p0_5 x0 x1 x3 x4 (ix2 r ⟨32 + k.val, by omega⟩) : EReal) = pr x0 x1 r ⟨32 + k.val, by omega⟩ := by
  pointwise [p0_5, k0_pay1, k0_pay4]
  exact pay5_at x0 x1 r _

theorem f_wtag0 (k : Fin 32) : (p0_5 x0 x1 x3 x4 (ix2 r ⟨64 + k.val, by omega⟩) : EReal)
    = Ideal.tanh (∑ j : Fin 32, mu (pr x0 x1 r ⟨32 + j.val, by omega⟩) (x3 (ix2 j ⟨k.val, by omega⟩))) := by
  pointwise [p0_5, k0_pay1, k0_pay4]
  rw [dif_neg (by omega), dif_neg (by omega), dif_pos (by omega)]
  exact congrArg Ideal.tanh (Finset.sum_congr rfl fun j _ => congrArg₂ (· * ·) (pay5_at x0 x1 r j) (congrArg (fun q => x3 (ix2 j q)) (Fin.ext (by simp only []; omega))))

theorem f_qtag0 (k : Fin 32) : (p0_5 x0 x1 x3 x4 (ix2 r ⟨96 + k.val, by omega⟩) : EReal)
    = Ideal.tanh (∑ j : Fin 32, mu (pr x0 x1 r ⟨j.val, by omega⟩) (x3 (ix2 j ⟨k.val, by omega⟩))) := by
  pointwise [p0_5, k0_pay1, k0_pay4]
  rw [dif_neg (by omega), dif_neg (by omega), dif_neg (by omega), dif_pos (by omega)]
  exact congrArg Ideal.tanh (Finset.sum_congr rfl fun j _ => congrArg₂ (· * ·) (pay3_at x0 x1 r _) (congrArg (fun q => x3 (ix2 j q)) (Fin.ext (by simp only []; omega))))

theorem f_val0 (k : Fin 64) : (p0_5 x0 x1 x3 x4 (ix2 r ⟨128 + k.val, by omega⟩) : EReal) = pr x0 x1 r ⟨64 + k.val, by omega⟩ := by
  pointwise [p0_5, k0_pay1, k0_pay4, k0_pay6]
  rw [dif_neg (by omega), dif_neg (by omega), dif_neg (by omega), dif_neg (by omega), dif_pos (by omega)]
  exact (pay3_at x0 x1 r _).trans (congrArg (pr x0 x1 r) (Fin.ext (by simp only []; omega)))

theorem f_gate0 : (p0_5 x0 x1 x3 x4 (ix2 r 192) : EReal) =
    mu (Ideal.ofBits .f32 0x3DCCCCCD#32) (if Ideal.ofBits .f32 0x3F000000#32 < Ideal.logistic (pr x0 x1 r 128 + (x4 (ix2 0 0) : EReal)) then Ideal.logistic (pr x0 x1 r 128 + (x4 (ix2 0 0) : EReal)) else 0) := by
  pointwise [p0_5, k0_pay1, k0_pay4, k0_pay7]
  rw [pay3_at]

theorem bit_word (t : Fin 16) : IntOp.shli ArithUnit.vector (1#32) (IntOp.andi (BitVec.ofNat 32 t.val) 15#32) = BitVec.ofNat 32 (2 ^ t.val) ∧
    IntOp.shli ArithUnit.vector (1#32) (IntOp.andi (BitVec.ofNat 32 (16 + t.val)) 15#32) = BitVec.ofNat 32 (2 ^ t.val) := by
  revert t; decide

theorem ite_word (p : Prop) [Decidable p] (w : BitVec 32) (v : Nat) (h : w = BitVec.ofNat 32 v) : (if p then w else 0#32) = BitVec.ofNat 32 (if p then v else 0) := by
  split
  · exact h
  · rfl

theorem i_zero : p0_6 x0 x1 x2 (ix2 r 0) = BitVec.ofNat 32 (∑ t : Fin 16, if 0 < ∑ k : Fin 32, mu (pr x0 x1 r ⟨k.val, by omega⟩) (x2 (ix2 k ⟨t.val, by omega⟩)) then 2 ^ t.val else 0) := by
  pointwise [p0_6, k0_pay2, k0_pay9, k0_pay8]
  rw [Spec.fold_addi _ _ _ fun t => ite_word _ _ _ (bit_word t).1]
  simp only [pay4_at]

theorem i_one : p0_6 x0 x1 x2 (ix2 r 1) = BitVec.ofNat 32 (∑ t : Fin 16, if 0 < ∑ k : Fin 32, mu (pr x0 x1 r ⟨k.val, by omega⟩) (x2 (ix2 k ⟨16 + t.val, by omega⟩)) then 2 ^ t.val else 0) := by
  pointwise [p0_6, k0_pay2, k0_pay10, k0_pay8]
  rw [Spec.fold_addi _ _ _ fun t => ite_word _ _ _ (bit_word t).2]
  simp only [pay4_at]
end

end Cert.KernelIdeal.Val

end
-- ==== Proof.KH0.lean ====
module

public import proofs.«01_k».proof.Proof.K0
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.StableHlo

section blocks
variable (V : (c : Dev nD) → (b : Ref sig .tc) → Buf (Elt Ideal) ((c : Thread nD τ).loc b)) (c : Dev nD) (n : Fin 8192)

/-- The first call's token block, at the row that holds token `n`. -/
theorem blk0_0 (k : Fin 1024) : (iblk0 V c 0 (pt0 n) : Vec Ideal S512x1024 .f32) (ix2 (rw0 n) k) = (V c main_v0 : FVec Ideal S8192x1024 .f32) (ix2 n k) := by
  blk_ext [iblk0, idx0 (pt0 n), rw0]
  all_goals first | done | (simp only [pt0]; omega)

/-- The first call's weights. -/
theorem blk0_1 (j : Fin 1024) (k : Fin 256) : (iblk0 V c 1 (pt0 n) : Vec Ideal S1024x256 .f32) (ix2 j k) = (V c main_v2 : FVec Ideal S1024x256 .f32) (ix2 j k) := by
  blk_ext [iblk0, idx0 (pt0 n), rw0]
  all_goals first | done | (simp only [pt0]; omega)

/-- The first call's hyperplanes. -/
theorem blk0_2 (j : Fin 32) (k : Fin 128) : (iblk0 V c 2 (pt0 n) : Vec Ideal S32x128 .f32) (ix2 j k) = (V c main_v5 : FVec Ideal S32x128 .f32) (ix2 j k) := by
  blk_ext [iblk0, idx0 (pt0 n), rw0]
  all_goals first | done | (simp only [pt0]; omega)

/-- The first call's tag weights. -/
theorem blk0_3 (j : Fin 32) (k : Fin 128) : (iblk0 V c 3 (pt0 n) : Vec Ideal S32x128 .f32) (ix2 j k) = (V c main_v6 : FVec Ideal S32x128 .f32) (ix2 j k) := by
  blk_ext [iblk0, idx0 (pt0 n), rw0]
  all_goals first | done | (simp only [pt0]; omega)

/-- The first call's gate bias. -/
theorem blk0_4 : (iblk0 V c 4 (pt0 n) : Vec Ideal S1x1 .f32) (ix2 0 0) = (V c main_v7 : FVec Ideal S1x1 .f32) (ix2 0 0) := by
  blk_ext [iblk0, idx0 (pt0 n), rw0]
  all_goals first | done | (simp only [pt0]; omega)

end blocks

section host
variable (b : Valuation τ sig (Elt Ideal))

theorem h_v0 (n : Fin 8192) (k : Fin 1024) : (after hostOps0 b (Proc.devRef .tc main_v0) : FVec Ideal S8192x1024 .f32) (ix2 n k)
    = (b (Proc.devRef .tc main_arg0) : FVec Ideal S2x4096x1024 .f32) (ix3 ⟨n.val / 4096, by omega⟩ ⟨n.val % 4096, by omega⟩ k) := by
  after_reads_at

theorem h_v1 (n : Fin 1024) (k : Fin 129) : ((after hostOps0 b (Proc.devRef .tc main_v1) : FVec Ideal S1024x129 .f32) (ix2 n k) : EReal)
    = if h : k.val < 32 then (b (Proc.devRef .tc main_arg1) : FVec Ideal S1024x32 .f32) (ix2 n ⟨k.val, h⟩)
      else if h : k.val - 32 < 32 then (b (Proc.devRef .tc main_arg2) : FVec Ideal S1024x32 .f32) (ix2 n ⟨k.val - 32, h⟩)
      else if h : k.val - 32 - 32 < 64 then (b (Proc.devRef .tc main_arg3) : FVec Ideal S1024x64 .f32) (ix2 n ⟨k.val - 32 - 32, h⟩)
      else (b (Proc.devRef .tc main_arg5) : FVec Ideal S1024x1 .f32) (ix2 n 0) := by
  after_reads_at
  by_cases h1 : k.val < 32
  · rw [dif_pos h1, dif_pos h1]
  · rw [dif_neg h1, dif_neg h1]
    by_cases h2 : k.val - 32 < 32
    · rw [dif_pos h2, dif_pos h2]
    · rw [dif_neg h2, dif_neg h2]
      by_cases h3 : k.val - 32 - 32 < 64
      · rw [dif_pos h3, dif_pos h3]
      · rw [dif_neg h3, dif_neg h3]
        exact congrArg (fun q => (b (Proc.devRef .tc main_arg5) : FVec Ideal S1024x1 .f32) (ix2 n q)) (Subsingleton.elim _ _)

theorem h_v2 (n : Fin 1024) (k : Fin 256) (h : k.val < 129) : (after hostOps0_1 b (Proc.devRef .tc main_v2) : FVec Ideal S1024x256 .f32) (ix2 n k)
    = (b (Proc.devRef .tc main_v1) : FVec Ideal S1024x129 .f32) (ix2 n ⟨k.val, h⟩) := by
  after_reads_at
  exact dif_pos h

theorem h_v4 (n k : Fin 32) : (after hostOps0_2 b (Proc.devRef .tc main_v4) : FVec Ideal S32x32 .f32) (ix2 n k)
    = (b (Proc.devRef .tc main_arg8) : FVec Ideal S2x32x16 .f32) (ix3 ⟨k.val / 16, by omega⟩ n ⟨k.val % 16, by omega⟩) := by
  after_reads_at

theorem h_v5 (n : Fin 32) (k : Fin 128) (h : k.val < 32) : (after hostOps0_3 b (Proc.devRef .tc main_v5) : FVec Ideal S32x128 .f32) (ix2 n k)
    = (b (Proc.devRef .tc main_v4) : FVec Ideal S32x32 .f32) (ix2 n ⟨k.val, h⟩) := by
  after_reads_at
  exact dif_pos h

theorem h_v6 (n : Fin 32) (k : Fin 128) (h : k.val < 32) : (after hostOps0_5 b (Proc.devRef .tc main_v6) : FVec Ideal S32x128 .f32) (ix2 n k)
    = (b (Proc.devRef .tc main_arg7) : FVec Ideal S32x32 .f32) (ix2 n ⟨k.val, h⟩) := by
  after_reads_at
  exact dif_pos h

theorem h_v7 : (after hostOps0_6 b (Proc.devRef .tc main_v7) : FVec Ideal S1x1 .f32) (ix2 0 0)
    = (b (Proc.devRef .tc main_arg6) : FVec Ideal S1 .f32) (ix1 0) := by
  after_reads_at

end host

end Cert.KernelIdeal.Val

end
-- ==== Proof.KH1.lean ====
module

public import proofs.«01_k».proof.Proof.KH0

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.StableHlo

/-- The arguments' elements in a core's contents. -/
def kIn (b : Valuation τ sig (Elt Ideal)) : Spec.In where
  x n c := (b (Proc.devRef .tc main_arg0) : FVec Ideal S2x4096x1024 .f32) (ix3 ⟨n.val / 4096, by omega⟩ ⟨n.val % 4096, by omega⟩ c)
  wq c k := (b (Proc.devRef .tc main_arg1) : FVec Ideal S1024x32 .f32) (ix2 c k)
  wk c k := (b (Proc.devRef .tc main_arg2) : FVec Ideal S1024x32 .f32) (ix2 c k)
  wv c k := (b (Proc.devRef .tc main_arg3) : FVec Ideal S1024x64 .f32) (ix2 c k)
  wo v j := (b (Proc.devRef .tc main_arg4) : FVec Ideal S64x1024 .f32) (ix2 v j)
  wg c := (b (Proc.devRef .tc main_arg5) : FVec Ideal S1024x1 .f32) (ix2 c 0)
  bg := (b (Proc.devRef .tc main_arg6) : FVec Ideal S1 .f32) (ix1 0)
  wt j k := (b (Proc.devRef .tc main_arg7) : FVec Ideal S32x32 .f32) (ix2 j k)
  rb h k t := (b (Proc.devRef .tc main_arg8) : FVec Ideal S2x32x16 .f32) (ix3 h k t)
  K h i a k := (b (Proc.devRef .tc main_arg9) : FVec Ideal S2x65536x2x32 .f32) (ix4 h i a k)
  V h i a k := (b (Proc.devRef .tc main_arg10) : FVec Ideal S2x65536x2x64 .f32) (ix4 h i a k)
  T h i a k := (b (Proc.devRef .tc main_arg11) : FVec Ideal S2x65536x2x32 .f32) (ix4 h i a k)

/-- The feature row from the blocks' reads: equal reads of the tokens and of a column give equal sums. -/
theorem pr_of (x0 : Vec Ideal S512x1024 .f32) (x1 : Vec Ideal S1024x256 .f32) (r : Fin 512) (k : Fin 256) (f g : Fin 1024 → EReal)
    (hf : ∀ c, x0 (ix2 r c) = f c) (hg : ∀ c, x1 (ix2 c k) = g c) : pr x0 x1 r k = ∑ c, f c * g c :=
  Finset.sum_congr rfl fun c _ => congrArg₂ (· * ·) (hf c) (hg c)

variable (m : (ℓ : Loc nD τ sig) → Buf (Elt Ideal) ℓ) (ρ : Dev nD → PrngReg) (c : Dev nD)

/-- The core's arguments at launch. -/
abbrev I0 : Spec.In := kIn (W0 m ρ c)

theorem w_v0 (n : Fin 8192) (k : Fin 1024) : (V7 m ρ c main_v0 : FVec Ideal S8192x1024 .f32) (ix2 n k) = (I0 m ρ c).x n k := by
  have e : V7 m ρ c main_v0 = W1 m ρ c (Proc.devRef .tc main_v0) :=
    (W7_of m ρ c main_v0 (by decide)).trans ((W6_of m ρ c main_v0 (by decide)).trans ((W5_of m ρ c main_v0 (by decide)).trans
      ((W4_of m ρ c main_v0 (by decide)).trans ((W3_of m ρ c main_v0 (by decide)).trans (W2_of m ρ c main_v0 (by decide))))))
  exact (congrFun e (ix2 n k)).trans (h_v0 (W0 m ρ c) n k)

theorem w_v2 (n : Fin 1024) (k : Fin 256) (h : k.val < 129) : (V7 m ρ c main_v2 : FVec Ideal S1024x256 .f32) (ix2 n k)
    = (W1 m ρ c (Proc.devRef .tc main_v1) : FVec Ideal S1024x129 .f32) (ix2 n ⟨k.val, h⟩) := by
  have e : V7 m ρ c main_v2 = W2 m ρ c (Proc.devRef .tc main_v2) :=
    (W7_of m ρ c main_v2 (by decide)).trans ((W6_of m ρ c main_v2 (by decide)).trans ((W5_of m ρ c main_v2 (by decide)).trans
      ((W4_of m ρ c main_v2 (by decide)).trans (W3_of m ρ c main_v2 (by decide)))))
  exact (congrFun e (ix2 n k)).trans (h_v2 (W1 m ρ c) n k h)

theorem w_q (n : Fin 1024) (k : Fin 32) : (V7 m ρ c main_v2 : FVec Ideal S1024x256 .f32) (ix2 n ⟨k.val, by omega⟩) = (I0 m ρ c).wq n k := by
  rw [w_v2 m ρ c n _ (by simp only []; omega)]
  refine (h_v1 (W0 m ρ c) n _).trans ?_
  rw [dif_pos k.isLt]
  rfl

theorem w_k (n : Fin 1024) (k : Fin 32) : (V7 m ρ c main_v2 : FVec Ideal S1024x256 .f32) (ix2 n ⟨32 + k.val, by omega⟩) = (I0 m ρ c).wk n k := by
  rw [w_v2 m ρ c n _ (by simp only []; omega)]
  refine (h_v1 (W0 m ρ c) n _).trans ?_
  rw [dif_neg (by simp only []; omega), dif_pos (by simp only []; omega)]
  exact congrArg (fun q => (I0 m ρ c).wk n q) (Fin.ext (by simp only []; omega))

theorem w_v (n : Fin 1024) (k : Fin 64) : (V7 m ρ c main_v2 : FVec Ideal S1024x256 .f32) (ix2 n ⟨64 + k.val, by omega⟩) = (I0 m ρ c).wv n k := by
  rw [w_v2 m ρ c n _ (by simp only []; omega)]
  refine (h_v1 (W0 m ρ c) n _).trans ?_
  rw [dif_neg (by simp only []; omega), dif_neg (by simp only []; omega), dif_pos (by simp only []; omega)]
  exact congrArg (fun q => (I0 m ρ c).wv n q) (Fin.ext (by simp only []; omega))

theorem w_g (n : Fin 1024) : (V7 m ρ c main_v2 : FVec Ideal S1024x256 .f32) (ix2 n 128) = (I0 m ρ c).wg n := by
  rw [w_v2 m ρ c n 128 (by decide)]
  refine (h_v1 (W0 m ρ c) n _).trans ?_
  rw [dif_neg (by decide), dif_neg (by decide), dif_neg (by decide)]
  rfl

theorem w_rb (n : Fin 32) (h : Fin 2) (t : Fin 16) : (V7 m ρ c main_v5 : FVec Ideal S32x128 .f32) (ix2 n ⟨16 * h.val + t.val, by omega⟩) = (I0 m ρ c).rb h n t := by
  have e : V7 m ρ c main_v5 = W4 m ρ c (Proc.devRef .tc main_v5) :=
    (W7_of m ρ c main_v5 (by decide)).trans ((W6_of m ρ c main_v5 (by decide)).trans (W5_of m ρ c main_v5 (by decide)))
  refine (congrFun e _).trans ((h_v5 (W3 m ρ c) n _ (by simp only []; omega)).trans ((h_v4 (W2 m ρ c) n _).trans ?_))
  have e8 : W2 m ρ c (Proc.devRef .tc main_arg8) = W0 m ρ c (Proc.devRef .tc main_arg8) :=
    (W2_args m ρ c main_arg8 (by decide)).trans (W0_args m ρ c main_arg8 (by decide)).symm
  rw [e8]
  show (I0 m ρ c).rb _ n _ = _
  exact congrArg₂ (fun p q => (I0 m ρ c).rb p n q) (Fin.ext (by simp only []; omega)) (Fin.ext (by simp only []; omega))

theorem w_wt (n : Fin 32) (k : Fin 32) : (V7 m ρ c main_v6 : FVec Ideal S32x128 .f32) (ix2 n ⟨k.val, by omega⟩) = (I0 m ρ c).wt n k := by
  refine (congrFun (W7_of m ρ c main_v6 (by decide)) _).trans ((h_v6 (W5 m ρ c) n _ k.isLt).trans ?_)
  exact congrFun ((W5_args m ρ c main_arg7 (by decide)).trans (W0_args m ρ c main_arg7 (by decide)).symm) _

theorem w_bg : (V7 m ρ c main_v7 : FVec Ideal S1x1 .f32) (ix2 0 0) = (I0 m ρ c).bg := by
  refine (h_v7 (W6 m ρ c)).trans ?_
  exact congrFun ((W6_args m ρ c main_arg6 (by decide)).trans (W0_args m ρ c main_arg6 (by decide)).symm) _

/-! The feature rows of the first call. -/

theorem prq (n : Fin 8192) (k : Fin 32) : pr (iblk0 (V7 m ρ) c 0 (pt0 n)) (iblk0 (V7 m ρ) c 1 (pt0 n)) (rw0 n) ⟨k.val, by omega⟩ = Spec.tag (I0 m ρ c) n k :=
  pr_of _ _ _ _ _ _ (fun x => (blk0_0 (V7 m ρ) c n x).trans (w_v0 m ρ c n x)) (fun x => (blk0_1 (V7 m ρ) c n x _).trans (w_q m ρ c x k))

theorem prk (n : Fin 8192) (k : Fin 32) : pr (iblk0 (V7 m ρ) c 0 (pt0 n)) (iblk0 (V7 m ρ) c 1 (pt0 n)) (rw0 n) ⟨32 + k.val, by omega⟩ = Spec.wkey (I0 m ρ c) n k :=
  pr_of _ _ _ _ _ _ (fun x => (blk0_0 (V7 m ρ) c n x).trans (w_v0 m ρ c n x)) (fun x => (blk0_1 (V7 m ρ) c n x _).trans (w_k m ρ c x k))

theorem prv (n : Fin 8192) (k : Fin 64) : pr (iblk0 (V7 m ρ) c 0 (pt0 n)) (iblk0 (V7 m ρ) c 1 (pt0 n)) (rw0 n) ⟨64 + k.val, by omega⟩ = Spec.val (I0 m ρ c) n k :=
  pr_of _ _ _ _ _ _ (fun x => (blk0_0 (V7 m ρ) c n x).trans (w_v0 m ρ c n x)) (fun x => (blk0_1 (V7 m ρ) c n x _).trans (w_v m ρ c x k))

theorem prg (n : Fin 8192) : pr (iblk0 (V7 m ρ) c 0 (pt0 n)) (iblk0 (V7 m ρ) c 1 (pt0 n)) (rw0 n) 128 = ∑ x, (I0 m ρ c).x n x * (I0 m ρ c).wg x :=
  pr_of _ _ _ _ _ _ (fun x => (blk0_0 (V7 m ρ) c n x).trans (w_v0 m ρ c n x)) (fun x => (blk0_1 (V7 m ρ) c n x _).trans (w_g m ρ c x))

/-- The features the first call leaves. -/
abbrev F8 : FVec Ideal S8192x256 .f32 := W8 m ρ c (Proc.devRef .tc main_v8_0)
/-- The buckets the first call leaves. -/
abbrev B8 : IVec S8192x8 32 := W8 m ρ c (Proc.devRef .tc main_v8_1)

theorem F8_at (n : Fin 8192) (k : Fin 256) : F8 m ρ c (ix2 n k) = p0_5 (iblk0 (V7 m ρ) c 0 (pt0 n)) (iblk0 (V7 m ρ) c 1 (pt0 n)) (iblk0 (V7 m ρ) c 3 (pt0 n)) (iblk0 (V7 m ρ) c 4 (pt0 n)) (ix2 (rw0 n) k) :=
  (congrFun (W8_arr m ρ c 5) (ix2 n k)).trans (final0_5 (V7 m ρ) c n k)

theorem B8_at (n : Fin 8192) (k : Fin 8) : B8 m ρ c (ix2 n k) = p0_6 (iblk0 (V7 m ρ) c 0 (pt0 n)) (iblk0 (V7 m ρ) c 1 (pt0 n)) (iblk0 (V7 m ρ) c 2 (pt0 n)) (ix2 (rw0 n) k) :=
  (congrFun (W8_arr m ρ c 6) (ix2 n k)).trans (final0_6 (V7 m ρ) c n k)

theorem F8_tag (n : Fin 8192) (k : Fin 32) : F8 m ρ c (ix2 n ⟨k.val, by omega⟩) = Spec.tag (I0 m ρ c) n k :=
  (F8_at m ρ c n _).trans ((f_tag0 _ _ _ _ _ k).trans (prq m ρ c n k))

theorem F8_wkey (n : Fin 8192) (k : Fin 32) : F8 m ρ c (ix2 n ⟨32 + k.val, by omega⟩) = Spec.wkey (I0 m ρ c) n k :=
  (F8_at m ρ c n _).trans ((f_wkey0 _ _ _ _ _ k).trans (prk m ρ c n k))

theorem F8_wtag (n : Fin 8192) (k : Fin 32) : F8 m ρ c (ix2 n ⟨64 + k.val, by omega⟩) = Spec.wtag (I0 m ρ c) n k :=
  (F8_at m ρ c n _).trans ((f_wtag0 _ _ _ _ _ k).trans (congrArg Ideal.tanh (Finset.sum_congr rfl fun j _ =>
    congrArg₂ (· * ·) (prk m ρ c n j) ((blk0_3 (V7 m ρ) c n j _).trans (w_wt m ρ c j k)))))

theorem F8_qtag (n : Fin 8192) (k : Fin 32) : F8 m ρ c (ix2 n ⟨96 + k.val, by omega⟩) = Spec.qtag (I0 m ρ c) n k :=
  (F8_at m ρ c n _).trans ((f_qtag0 _ _ _ _ _ k).trans (congrArg Ideal.tanh (Finset.sum_congr rfl fun j _ =>
    congrArg₂ (· * ·) (prq m ρ c n j) ((blk0_3 (V7 m ρ) c n j _).trans (w_wt m ρ c j k)))))

theorem F8_val (n : Fin 8192) (k : Fin 64) : F8 m ρ c (ix2 n ⟨128 + k.val, by omega⟩) = Spec.val (I0 m ρ c) n k :=
  (F8_at m ρ c n _).trans ((f_val0 _ _ _ _ _ k).trans (prv m ρ c n k))

theorem F8_gate (n : Fin 8192) : F8 m ρ c (ix2 n 192) = Spec.gE (I0 m ρ c) n := by
  refine (F8_at m ρ c n _).trans ((f_gate0 _ _ _ _ _).trans ?_)
  rw [prg m ρ c n, (blk0_4 (V7 m ρ) c n).trans (w_bg m ρ c)]
  rfl

/-- The number of the sign bits from the block's reads. -/
theorem word_of (x0 : Vec Ideal S512x1024 .f32) (x1 : Vec Ideal S1024x256 .f32) (x2 : Vec Ideal S32x128 .f32) (r : Fin 512)
    (f : Fin 32 → EReal) (g : Fin 32 → Fin 16 → EReal) (ix : Fin 16 → Fin 128)
    (hf : ∀ k : Fin 32, pr x0 x1 r ⟨k.val, by omega⟩ = f k) (hg : ∀ k t, x2 (ix2 k (ix t)) = g k t) :
    BitVec.ofNat 32 (∑ t : Fin 16, if 0 < ∑ k : Fin 32, mu (pr x0 x1 r ⟨k.val, by omega⟩) (x2 (ix2 k (ix t))) then 2 ^ t.val else 0)
      = BitVec.ofNat 32 (∑ t : Fin 16, if 0 < ∑ k : Fin 32, f k * g k t then 2 ^ t.val else 0) := by
  simp only [hf, hg]

theorem B8_zero (n : Fin 8192) : B8 m ρ c (ix2 n 0) = BitVec.ofNat 32 (Spec.bk (I0 m ρ c) n 0).val := by
  refine (B8_at m ρ c n _).trans ((i_zero _ _ _ _).trans ?_)
  exact word_of _ _ _ _ (Spec.tag (I0 m ρ c) n) (fun k t => (I0 m ρ c).rb 0 k t) (fun t => ⟨t.val, by omega⟩) (prq m ρ c n)
    (fun k t => (blk0_2 (V7 m ρ) c n k _).trans ((congrArg (fun q => (V7 m ρ c main_v5 : FVec Ideal S32x128 .f32) (ix2 k q)) (Fin.ext (by simp))).trans (w_rb m ρ c k 0 t)))

theorem B8_one (n : Fin 8192) : B8 m ρ c (ix2 n 1) = BitVec.ofNat 32 (Spec.bk (I0 m ρ c) n 1).val := by
  refine (B8_at m ρ c n _).trans ((i_one _ _ _ _).trans ?_)
  exact word_of _ _ _ _ (Spec.tag (I0 m ρ c) n) (fun k t => (I0 m ρ c).rb 1 k t) (fun t => ⟨16 + t.val, by omega⟩) (prq m ρ c n)
    (fun k t => (blk0_2 (V7 m ρ) c n k _).trans ((congrArg (fun q => (V7 m ρ c main_v5 : FVec Ideal S32x128 .f32) (ix2 k q)) (Fin.ext (by simp))).trans (w_rb m ρ c k 1 t)))

end Cert.KernelIdeal.Val

end
-- ==== Proof.KH2.lean ====
module

public import proofs.«01_k».proof.Proof.KH0
public import Idealize.ShloMosaic.Lib.Routing.OpsPair
public import Idealize.ShloMosaic.Lib.Routing.Ops

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.StableHlo

/-- The table's row that holds slot `q` of token `n`'s buckets. -/
def row (bk : Fin 8192 → Fin 2 → Fin 65536) (n : Fin 8192) (q : Fin 4) : Fin 262144 :=
  ⟨q.val / 2 * 131072 + (bk n (Spec.hq q)).val * 2 + q.val % 2, by have := (bk n (Spec.hq q)).isLt; omega⟩

/-- The row words of every token's four slots. -/
def sw (B : IVec S8192x8 32) : IVec S32768 32 := fun i =>
  IntOp.addi (IntOp.addi (IntOp.muli (BitVec.ofNat 32 ((i 0).val / 2 % 2)) 131072#32)
    (IntOp.muli (B (ix2 ⟨(i 0).val / 4, by have := (i 0).isLt; change _ < 32768 at this; omega⟩ ⟨(i 0).val / 2 % 2, by omega⟩)) 2#32)) (BitVec.ofNat 32 ((i 0).val % 2))

/-- A row word. -/
theorem sw_at (B : IVec S8192x8 32) (bk : Fin 8192 → Fin 2 → Fin 65536) (hB : ∀ (n : Fin 8192) (h : Fin 2), B (ix2 n ⟨h.val, by omega⟩) = BitVec.ofNat 32 (bk n h).val)
    (n : Fin 8192) (q : Fin 4) : sw B (ix1 ⟨4 * n.val + q.val, by omega⟩) = BitVec.ofNat 32 (row bk n q).val := by
  have e : B (ix2 ⟨(4 * n.val + q.val) / 4, by omega⟩ ⟨(4 * n.val + q.val) / 2 % 2, by omega⟩) = BitVec.ofNat 32 (bk n (Spec.hq q)).val := by
    rw [← hB n (Spec.hq q)]
    exact congrArg₂ (fun i j => B (ix2 i j)) (Fin.ext (by simp only []; omega)) (Fin.ext (by simp only []; omega))
  show IntOp.addi (IntOp.addi (IntOp.muli (BitVec.ofNat 32 ((4 * n.val + q.val) / 2 % 2)) 131072#32)
    (IntOp.muli (B (ix2 ⟨(4 * n.val + q.val) / 4, _⟩ ⟨(4 * n.val + q.val) / 2 % 2, _⟩)) 2#32)) (BitVec.ofNat 32 ((4 * n.val + q.val) % 2)) = _
  rw [e, show (4 * n.val + q.val) / 2 % 2 = q.val / 2 by omega, show (4 * n.val + q.val) % 2 = q.val % 2 by omega]
  simp only [row, BitVec.ofNat_add, BitVec.ofNat_mul]
  rfl

/-- A wrapped row index reads its word: no word is negative. -/
theorem wrapped (w : IVec S32768 32) (j : Fin 32768) (h : (w (ix1 j)).toNat < 2 ^ 31) :
    (broadcastInDim S32768x1 ![0] bcast_S32768_S32768x1_0 (select (cmpi CmpIPredicate.slt w (broadcastInDim S32768 ![] bcast_S_S32768 (constantI S_ 32 0#32)))
      (addi w (broadcastInDim S32768 ![] bcast_S_S32768 (constantI S_ 32 262144#32))) w) : IVec S32768x1 32) (ix2 j 0) = w (ix1 j) := by
  pointwise []
  exact Routing.wrap_of_lt _ _ h

variable (bk : Fin 8192 → Fin 2 → Fin 65536) (w : IVec S32768 32) (hw : ∀ n q, w (ix1 ⟨4 * n.val + q.val, by omega⟩) = BitVec.ofNat 32 (row bk n q).val)

include hw in
theorem wrapped_row (n : Fin 8192) (q : Fin 4) :
    (broadcastInDim S32768x1 ![0] bcast_S32768_S32768x1_0 (select (cmpi CmpIPredicate.slt w (broadcastInDim S32768 ![] bcast_S_S32768 (constantI S_ 32 0#32)))
      (addi w (broadcastInDim S32768 ![] bcast_S_S32768 (constantI S_ 32 262144#32))) w) : IVec S32768x1 32) (ix2 ⟨4 * n.val + q.val, by omega⟩ 0) = BitVec.ofNat 32 (row bk n q).val := by
  rw [wrapped, hw]
  have := (row bk n q).isLt
  rw [hw, BitVec.toNat_ofNat]
  omega

include hw in
/-- Gathering rows of width 32. -/
theorem rows32 (x : FVec Ideal S262144x32 .f32) (n : Fin 8192) (q : Fin 4) (k : Fin 32) (i : Fin 32768) (j : Fin 32) (hi : i.val = 4 * n.val + q.val) (hj : j.val = k.val) :
    Host.gather gather_S262144x32_S32768x1_S32768x32_1_0_n_n_0_1_132 x (broadcastInDim S32768x1 ![0] bcast_S32768_S32768x1_0
      (select (cmpi CmpIPredicate.slt w (broadcastInDim S32768 ![] bcast_S_S32768 (constantI S_ 32 0#32)))
        (addi w (broadcastInDim S32768 ![] bcast_S_S32768 (constantI S_ 32 262144#32))) w)) (ix2 i j) = x (ix2 (row bk n q) k) := by
  rw [show i = (⟨4 * n.val + q.val, by clear hi; omega⟩ : Fin 32768) from Fin.ext hi, show j = k from Fin.ext hj]
  exact Routing.gather_row _ rfl rfl rfl rfl rfl x _ _ _ _ (wrapped_row bk w hw n q) (by decide)

include hw in
/-- Gathering rows of width 64. -/
theorem rows64 (x : FVec Ideal S262144x64 .f32) (n : Fin 8192) (q : Fin 4) (k : Fin 64) (i : Fin 32768) (j : Fin 64) (hi : i.val = 4 * n.val + q.val) (hj : j.val = k.val) :
    Host.gather gather_S262144x64_S32768x1_S32768x64_1_0_n_n_0_1_164 x (broadcastInDim S32768x1 ![0] bcast_S32768_S32768x1_0
      (select (cmpi CmpIPredicate.slt w (broadcastInDim S32768 ![] bcast_S_S32768 (constantI S_ 32 0#32)))
        (addi w (broadcastInDim S32768 ![] bcast_S_S32768 (constantI S_ 32 262144#32))) w)) (ix2 i j) = x (ix2 (row bk n q) k) := by
  rw [show i = (⟨4 * n.val + q.val, by clear hi; omega⟩ : Fin 32768) from Fin.ext hi, show j = k from Fin.ext hj]
  exact Routing.gather_row _ rfl rfl rfl rfl rfl x _ _ _ _ (wrapped_row bk w hw n q) (by decide)

include hw in
/-- Gathering rows of width 128. -/
theorem rows128 (x : FVec Ideal S262144x128 .f32) (n : Fin 8192) (q : Fin 4) (k : Fin 128) (i : Fin 32768) (j : Fin 128) (hi : i.val = 4 * n.val + q.val) (hj : j.val = k.val) :
    Host.gather gather_S262144x128_S32768x1_S32768x128_1_0_n_n_0_1_1128 x (broadcastInDim S32768x1 ![0] bcast_S32768_S32768x1_0
      (select (cmpi CmpIPredicate.slt w (broadcastInDim S32768 ![] bcast_S_S32768 (constantI S_ 32 0#32)))
        (addi w (broadcastInDim S32768 ![] bcast_S_S32768 (constantI S_ 32 262144#32))) w)) (ix2 i j) = x (ix2 (row bk n q) k) := by
  rw [show i = (⟨4 * n.val + q.val, by clear hi; omega⟩ : Fin 32768) from Fin.ext hi, show j = k from Fin.ext hj]
  exact Routing.gather_row _ rfl rfl rfl rfl rfl x _ _ _ _ (wrapped_row bk w hw n q) (by decide)

section reads
variable (b : Valuation τ sig (Elt Ideal))

theorem h_v24 : (after hostOps1 b (Proc.devRef .tc main_v24) : IVec S32768 32) = sw (b (Proc.devRef .tc main_v8_1)) := by
  funext j
  idx_vars j
  after_reads_at
  rfl

variable (hB : ∀ (n : Fin 8192) (h : Fin 2), (b (Proc.devRef .tc main_v8_1) : IVec S8192x8 32) (ix2 n ⟨h.val, by omega⟩) = BitVec.ofNat 32 (bk n h).val)

include hB in
theorem h_v35 (n : Fin 8192) (q : Fin 4) (k : Fin 32) : (after hostOps1 b (Proc.devRef .tc main_v35) : FVec Ideal S8192x128 .f32) (ix2 n ⟨32 * q.val + k.val, by omega⟩)
    = (b (Proc.devRef .tc main_arg9) : FVec Ideal S2x65536x2x32 .f32) (ix4 (Spec.hq q) (bk n (Spec.hq q)) (Spec.aq q) k) := by
  after_reads_at
  refine (rows32 bk (sw (b (Proc.devRef .tc main_v8_1))) (sw_at _ bk hB) _ n q k _ _ (by first | omega | (simp only []; omega)) (by first | omega | (simp only []; omega))).trans ?_
  have := (bk n (Spec.hq q)).isLt
  show (b (Proc.devRef .tc main_arg9) : FVec Ideal S2x65536x2x32 .f32) (ix4 ⟨(row bk n q).val / 131072, _⟩ ⟨(row bk n q).val / 2 % 65536, _⟩ ⟨(row bk n q).val % 2, _⟩ k) = _
  have e1 : (row bk n q).val / 131072 = q.val / 2 := by simp only [row]; omega
  have e2 : (row bk n q).val / 2 % 65536 = (bk n (Spec.hq q)).val := by simp only [row]; omega
  have e3 : (row bk n q).val % 2 = q.val % 2 := by simp only [row]; omega
  simp only [e1, e2, e3]

include hB in
theorem h_v43 (n : Fin 8192) (q : Fin 4) (k : Fin 64) : (after hostOps1 b (Proc.devRef .tc main_v43) : FVec Ideal S8192x256 .f32) (ix2 n ⟨64 * q.val + k.val, by omega⟩)
    = (b (Proc.devRef .tc main_arg10) : FVec Ideal S2x65536x2x64 .f32) (ix4 (Spec.hq q) (bk n (Spec.hq q)) (Spec.aq q) k) := by
  after_reads_at
  refine (rows64 bk (sw (b (Proc.devRef .tc main_v8_1))) (sw_at _ bk hB) _ n q k _ _ (by first | omega | (simp only []; omega)) (by first | omega | (simp only []; omega))).trans ?_
  have := (bk n (Spec.hq q)).isLt
  show (b (Proc.devRef .tc main_arg10) : FVec Ideal S2x65536x2x64 .f32) (ix4 ⟨(row bk n q).val / 131072, _⟩ ⟨(row bk n q).val / 2 % 65536, _⟩ ⟨(row bk n q).val % 2, _⟩ k) = _
  have e1 : (row bk n q).val / 131072 = q.val / 2 := by simp only [row]; omega
  have e2 : (row bk n q).val / 2 % 65536 = (bk n (Spec.hq q)).val := by simp only [row]; omega
  have e3 : (row bk n q).val % 2 = q.val % 2 := by simp only [row]; omega
  simp only [e1, e2, e3]

include hB in
theorem h_v51 (n : Fin 8192) (q : Fin 4) (k : Fin 32) : (after hostOps1 b (Proc.devRef .tc main_v51) : FVec Ideal S8192x128 .f32) (ix2 n ⟨32 * q.val + k.val, by omega⟩)
    = (b (Proc.devRef .tc main_arg11) : FVec Ideal S2x65536x2x32 .f32) (ix4 (Spec.hq q) (bk n (Spec.hq q)) (Spec.aq q) k) := by
  after_reads_at
  refine (rows32 bk (sw (b (Proc.devRef .tc main_v8_1))) (sw_at _ bk hB) _ n q k _ _ (by first | omega | (simp only []; omega)) (by first | omega | (simp only []; omega))).trans ?_
  have := (bk n (Spec.hq q)).isLt
  show (b (Proc.devRef .tc main_arg11) : FVec Ideal S2x65536x2x32 .f32) (ix4 ⟨(row bk n q).val / 131072, _⟩ ⟨(row bk n q).val / 2 % 65536, _⟩ ⟨(row bk n q).val % 2, _⟩ k) = _
  have e1 : (row bk n q).val / 131072 = q.val / 2 := by simp only [row]; omega
  have e2 : (row bk n q).val / 2 % 65536 = (bk n (Spec.hq q)).val := by simp only [row]; omega
  have e3 : (row bk n q).val % 2 = q.val % 2 := by simp only [row]; omega
  simp only [e1, e2, e3]

end reads

end Cert.KernelIdeal.Val

end
-- ==== Proof.R1.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- Every window of the second call moves down its array one block of 512 rows per point. -/
theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0]
    ∧ win1_7.index t = ![t.val, 0] :=
  (by decide +kernel : ∀ t : Fin grid1.N, _)

/-- The point whose blocks hold row `n`. -/
def pt1 (n : Fin 8192) : Fin cfg1.N := ⟨n.val / 512, by have := n.isLt; show n.val / 512 < 16; omega⟩

/-- The row of its block that holds row `n`. -/
def rw1 (n : Fin 8192) : Fin 512 := ⟨n.val % 512, Nat.mod_lt _ (by decide)⟩

/-- The deltas' block over the input blocks. -/
def p1_5 (x0 : Vec Ideal S512x256 .f32) (x2 : Vec Ideal S512x128 .f32) (x3 : Vec Ideal S512x256 .f32) (x4 : Vec Ideal S512x128 .f32) :
    Vec Ideal S512x256 .f32 :=
  k1_pay17 (k1_pay4 x0) (k1_pay5 x0) (k1_pay7 x0) (k1_pay8 x0) (k1_pay10 x3) (k1_pay11 x4) (k1_pay12 x0 x2) (k1_pay13 x0 x2)
    (k1_pay14 x0 x2) (k1_pay15 x0 x2) (k1_pay16 x0 x2 x3)

/-- The written rows' block over the input blocks. -/
def p1_6 (x0 : Vec Ideal S512x256 .f32) (x1 : Vec Ideal S512x8 .i32) (x2 : Vec Ideal S512x128 .f32) : Vec Ideal S512x8 .i32 :=
  k1_pay18 (k1_pay12 x0 x2) (k1_pay13 x0 x2) x1

/-- The scores' block over the input blocks. -/
def p1_7 (x0 : Vec Ideal S512x256 .f32) (x2 : Vec Ideal S512x128 .f32) (x4 : Vec Ideal S512x128 .f32) : Vec Ideal S512x8 .f32 :=
  k1_pay1 (k1_pay20 (k1_pay6 x0) (k1_pay11 x4) (k1_pay19 (k1_pay3 x0) (k1_pay9 x2)))
    (k1_pay21 (k1_pay3 x0) (k1_pay6 x0) (k1_pay9 x2) (k1_pay11 x4)) (k1_pay22 (k1_pay3 x0) (k1_pay6 x0) (k1_pay9 x2) (k1_pay11 x4))
    (k1_pay23 (k1_pay3 x0) (k1_pay9 x2)) (k1_pay24 (k1_pay6 x0) (k1_pay11 x4)) (Scalar.ofBits .f32 0x3F800000#32)

/-- What the body leaves in the deltas' buffer. -/
theorem out1_5_eq (x0 : Vec Ideal S512x256 .f32) (x1 : Vec Ideal S512x8 .i32) (x2 : Vec Ideal S512x128 .f32) (x3 : Vec Ideal S512x256 .f32)
    (x4 : Vec Ideal S512x128 .f32) : out1_5 x0 x1 x2 x3 x4 = p1_5 x0 x2 x3 x4 := by
  funext y
  unfold_out out1_5
  frame_out
  unfold p1_5
  first | done | rfl

/-- Row `n` of the deltas is its row of the block its point computes. -/
theorem final1_5 (c : Dev nD) (n : Fin 8192) (k : Fin 256) :
    ((dat1 V c).arrAt 5 cfg1.N : FVec Ideal S8192x256 .f32) (ix2 n k) = p1_5 (iblk1 V c 0 (pt1 n)) (iblk1 V c 2 (pt1 n)) (iblk1 V c 3 (pt1 n)) (iblk1 V c 4 (pt1 n)) (ix2 (rw1 n) k) := by
  have h : (dat1 V c).arrAt 5 cfg1.N = (fun j : S8192x256.Idx =>
      p1_5 (iblk1 V c 0 (pt1 (j 0))) (iblk1 V c 2 (pt1 (j 0))) (iblk1 V c 3 (pt1 (j 0))) (iblk1 V c 4 (pt1 (j 0))) (ix2 (rw1 (j 0)) (j 1))) := by
    refine (dat1 V c).arrAt_eq_of_covers 5 _ (by decide +kernel) fun t _ y => ?_
    have e0 : pt1 ((((cfg1.win 5).blk t).view.emb y : S8192x256.Idx) 0) = t := by
      apply Fin.ext
      show ((((cfg1.win 5).blk t).view.emb y : S8192x256.Idx) 0).val / 512 = t.val
      blk_simp [idx1 t]
      idx_bounds
      omega
    have e1 : ix2 (rw1 ((((cfg1.win 5).blk t).view.emb y : S8192x256.Idx) 0)) ((((cfg1.win 5).blk t).view.emb y : S8192x256.Idx) 1) = y := by
      funext a
      apply Fin.ext
      fin_cases a
      · show ((((cfg1.win 5).blk t).view.emb y : S8192x256.Idx) 0).val % 512 = (y 0).val
        blk_simp [idx1 t]
        idx_bounds
        omega
      · show ((((cfg1.win 5).blk t).view.emb y : S8192x256.Idx) 1).val = (y 1).val
        blk_simp [idx1 t]
    have e2 := congr (congrArg (fun (t' : Fin cfg1.N) (y' : S512x256.Idx) => p1_5 (iblk1 V c 0 t') (iblk1 V c 2 t') (iblk1 V c 3 t') (iblk1 V c 4 t') y') e0.symm) e1.symm
    blk_simp
    rw [after1_5, out1_5_eq]
    exact e2
  rw [h]
  rfl

/-- What the body leaves in the written rows' buffer. -/
theorem out1_6_eq (x0 : Vec Ideal S512x256 .f32) (x1 : Vec Ideal S512x8 .i32) (x2 : Vec Ideal S512x128 .f32) (x3 : Vec Ideal S512x256 .f32)
    (x4 : Vec Ideal S512x128 .f32) : out1_6 x0 x1 x2 x3 x4 = p1_6 x0 x1 x2 := by
  funext y
  unfold_out out1_6
  frame_out
  unfold p1_6
  first | done | rfl

/-- Row `n` of the written rows is its row of the block its point computes. -/
theorem final1_6 (c : Dev nD) (n : Fin 8192) (k : Fin 8) :
    ((dat1 V c).arrAt 6 cfg1.N : IVec S8192x8 32) (ix2 n k) = p1_6 (iblk1 V c 0 (pt1 n)) (iblk1 V c 1 (pt1 n)) (iblk1 V c 2 (pt1 n)) (ix2 (rw1 n) k) := by
  have h : (dat1 V c).arrAt 6 cfg1.N = (fun j : S8192x8.Idx =>
      p1_6 (iblk1 V c 0 (pt1 (j 0))) (iblk1 V c 1 (pt1 (j 0))) (iblk1 V c 2 (pt1 (j 0))) (ix2 (rw1 (j 0)) (j 1))) := by
    refine (dat1 V c).arrAt_eq_of_covers 6 _ (by decide +kernel) fun t _ y => ?_
    have e0 : pt1 ((((cfg1.win 6).blk t).view.emb y : S8192x8.Idx) 0) = t := by
      apply Fin.ext
      show ((((cfg1.win 6).blk t).view.emb y : S8192x8.Idx) 0).val / 512 = t.val
      blk_simp [idx1 t]
      idx_bounds
      omega
    have e1 : ix2 (rw1 ((((cfg1.win 6).blk t).view.emb y : S8192x8.Idx) 0)) ((((cfg1.win 6).blk t).view.emb y : S8192x8.Idx) 1) = y := by
      funext a
      apply Fin.ext
      fin_cases a
      · show ((((cfg1.win 6).blk t).view.emb y : S8192x8.Idx) 0).val % 512 = (y 0).val
        blk_simp [idx1 t]
        idx_bounds
        omega
      · show ((((cfg1.win 6).blk t).view.emb y : S8192x8.Idx) 1).val = (y 1).val
        blk_simp [idx1 t]
    have e2 := congr (congrArg (fun (t' : Fin cfg1.N) (y' : S512x8.Idx) => p1_6 (iblk1 V c 0 t') (iblk1 V c 1 t') (iblk1 V c 2 t') y') e0.symm) e1.symm
    blk_simp
    rw [after1_6, out1_6_eq]
    exact e2
  rw [h]
  rfl

/-- What the body leaves in the scores' buffer. -/
theorem out1_7_eq (x0 : Vec Ideal S512x256 .f32) (x1 : Vec Ideal S512x8 .i32) (x2 : Vec Ideal S512x128 .f32) (x3 : Vec Ideal S512x256 .f32)
    (x4 : Vec Ideal S512x128 .f32) : out1_7 x0 x1 x2 x3 x4 = p1_7 x0 x2 x4 := by
  funext y
  unfold_out out1_7
  frame_out
  unfold p1_7
  first | done | rfl

/-- Row `n` of the scores is its row of the block its point computes. -/
theorem final1_7 (c : Dev nD) (n : Fin 8192) (k : Fin 8) :
    ((dat1 V c).arrAt 7 cfg1.N : FVec Ideal S8192x8 .f32) (ix2 n k) = p1_7 (iblk1 V c 0 (pt1 n)) (iblk1 V c 2 (pt1 n)) (iblk1 V c 4 (pt1 n)) (ix2 (rw1 n) k) := by
  have h : (dat1 V c).arrAt 7 cfg1.N = (fun j : S8192x8.Idx =>
      p1_7 (iblk1 V c 0 (pt1 (j 0))) (iblk1 V c 2 (pt1 (j 0))) (iblk1 V c 4 (pt1 (j 0))) (ix2 (rw1 (j 0)) (j 1))) := by
    refine (dat1 V c).arrAt_eq_of_covers 7 _ (by decide +kernel) fun t _ y => ?_
    have e0 : pt1 ((((cfg1.win 7).blk t).view.emb y : S8192x8.Idx) 0) = t := by
      apply Fin.ext
      show ((((cfg1.win 7).blk t).view.emb y : S8192x8.Idx) 0).val / 512 = t.val
      blk_simp [idx1 t]
      idx_bounds
      omega
    have e1 : ix2 (rw1 ((((cfg1.win 7).blk t).view.emb y : S8192x8.Idx) 0)) ((((cfg1.win 7).blk t).view.emb y : S8192x8.Idx) 1) = y := by
      funext a
      apply Fin.ext
      fin_cases a
      · show ((((cfg1.win 7).blk t).view.emb y : S8192x8.Idx) 0).val % 512 = (y 0).val
        blk_simp [idx1 t]
        idx_bounds
        omega
      · show ((((cfg1.win 7).blk t).view.emb y : S8192x8.Idx) 1).val = (y 1).val
        blk_simp [idx1 t]
    have e2 := congr (congrArg (fun (t' : Fin cfg1.N) (y' : S512x8.Idx) => p1_7 (iblk1 V c 0 t') (iblk1 V c 2 t') (iblk1 V c 4 t') y') e0.symm) e1.symm
    blk_simp
    rw [after1_7, out1_7_eq]
    exact e2
  rw [h]
  rfl

end Cert.KernelIdeal.Val
-- ==== Proof.K1.lean ====
module

public import proofs.«01_k».proof.Proof.R1
public import proofs.«01_k».proof.Proof.K0

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.StableHlo

/-- The named reciprocal root is the exact one. -/
theorem rsq_named : (Named.named (F := Ideal) κ "rsq" 0x3E3504F3#32 : Ideal .f32) = (((Real.sqrt 32)⁻¹ : ℝ) : EReal) :=
  IdealRules.named_const.ideal_named_scalar _ _ _ _ rfl

/-- A step towards a target from the selected of two contents. -/
theorem step_sel (g a b c a' b' c' : EReal) (w : BitVec 1) (p : Prop) [Decidable p] (hw : w = if p then 1#1 else 0#1)
    (ha : a = a') (hb : b = b') (hc : c = c') : g * (a - Scalar.select w b c) = mu g (a' - if p then b' else c') := by
  subst hw ha hb hc
  by_cases h : p
  · rw [if_pos h, if_pos h]; rfl
  · rw [if_neg h, if_neg h]; rfl

/-- A row number from a bucket's word and the matched slot's bit. -/
theorem row_word (v o : Nat) (w : BitVec 1) (p : Prop) [Decidable p] (hw : w = if p then 1#1 else 0#1) :
    IntOp.addi (IntOp.muli (BitVec.ofNat 32 v) 2#32) (BitVec.setWidth 32 w) = BitVec.ofNat 32 (v * 2 + if p then 1 else 0)
    ∧ IntOp.addi (IntOp.addi (BitVec.ofNat 32 o) (IntOp.muli (BitVec.ofNat 32 v) 2#32)) (BitVec.setWidth 32 w) = BitVec.ofNat 32 (o + v * 2 + if p then 1 else 0) := by
  subst hw
  by_cases h : p
  · rw [if_pos h, if_pos h]
    simp only [BitVec.ofNat_add, BitVec.ofNat_mul]
    exact ⟨rfl, rfl⟩
  · rw [if_neg h, if_neg h]
    simp only [BitVec.ofNat_add, BitVec.ofNat_mul]
    exact ⟨rfl, rfl⟩

/-- A scaled sum plus a sum. -/
theorem two_sums (f g f' g' : Fin 32 → EReal) (q q' : EReal) (hf : ∀ k, f k = f' k) (hg : ∀ k, g k = g' k) (hq : q = q') :
    (∑ k, f k) * q + ∑ k, g k = mu (∑ k, f' k) q' + ∑ k, g' k := by
  rw [funext hf, funext hg, hq]

variable (x0 : Vec Ideal S512x256 .f32) (x1 : Vec Ideal S512x8 .i32) (x2 : Vec Ideal S512x128 .f32) (x3 : Vec Ideal S512x256 .f32)
  (x4 : Vec Ideal S512x128 .f32) (r : Fin 512)

/-- The match of the slot at `o` against the write key. -/
def mt (o : Fin 97) : EReal := ∑ k : Fin 32, mu (x2 (ix2 r ⟨o.val + k.val, by omega⟩)) (x0 (ix2 r ⟨32 + k.val, by omega⟩))

/-- A truth value's bit. -/
theorem bit_of (a b a' b' : EReal) (ha : a = a') (hb : b = b') : BitVec.ofBool (decide (a < b)) = if a' < b' then 1#1 else 0#1 := by
  subst ha hb
  by_cases h : a < b <;> simp [h]

theorem bit0 : k1_pay12 x0 x2 (ix2 r 0) = if mt x0 x2 r 0 < mt x0 x2 r 32 then 1#1 else 0#1 := by
  pointwise [k1_pay12, k1_pay9, k1_pay4, k1_pay2]
  exact bit_of _ _ _ _ (Finset.sum_congr rfl fun k _ => congrArg₂ (· * ·) (congrArg (fun q => x2 (ix2 r q)) (Fin.ext (by simp))) rfl)
    (Finset.sum_congr rfl fun k _ => rfl)

theorem bit1 : k1_pay13 x0 x2 (ix2 r 0) = if mt x0 x2 r 64 < mt x0 x2 r 96 then 1#1 else 0#1 := by
  pointwise [k1_pay13, k1_pay9, k1_pay4, k1_pay2]
  exact bit_of _ _ _ _ (Finset.sum_congr rfl fun k _ => rfl) (Finset.sum_congr rfl fun k _ => rfl)

theorem g_dk0 (k : Fin 32) : (p1_5 x0 x2 x3 x4 (ix2 r ⟨k.val, by omega⟩) : EReal) =
    mu (x0 (ix2 r 192)) ((x0 (ix2 r ⟨32 + k.val, by omega⟩) : EReal) - if mt x0 x2 r 0 < mt x0 x2 r 32 then (x2 (ix2 r ⟨32 + k.val, by omega⟩) : EReal) else x2 (ix2 r ⟨k.val, by omega⟩)) := by
  pointwise [p1_5, k1_pay17, k1_pay2, k1_pay8, k1_pay9, k1_pay10, k1_pay11]
  try simp (disch := omega) only [dif_pos, dif_neg]
  pointwise [k1_pay14, k1_pay4, k1_pay9, k1_pay2]
  exact step_sel _ _ _ _ _ _ _ _ _ (bit0 x0 x2 r) (congrArg (fun q => x0 (ix2 r q)) (Fin.ext (by first | rfl | (simp only []; omega)))) (congrArg (fun q => x2 (ix2 r q)) (Fin.ext (by first | rfl | (simp only []; omega)))) (congrArg (fun q => x2 (ix2 r q)) (Fin.ext (by first | rfl | (simp only []; omega))))

theorem g_dv0 (k : Fin 64) : (p1_5 x0 x2 x3 x4 (ix2 r ⟨32 + k.val, by omega⟩) : EReal) =
    mu (x0 (ix2 r 192)) ((x0 (ix2 r ⟨128 + k.val, by omega⟩) : EReal) - if mt x0 x2 r 0 < mt x0 x2 r 32 then (x3 (ix2 r ⟨64 + k.val, by omega⟩) : EReal) else x3 (ix2 r ⟨k.val, by omega⟩)) := by
  pointwise [p1_5, k1_pay17, k1_pay2, k1_pay8, k1_pay9, k1_pay10, k1_pay11]
  try simp (disch := omega) only [dif_pos, dif_neg]
  pointwise [k1_pay16, k1_pay7, k1_pay10, k1_pay2]
  exact step_sel _ _ _ _ _ _ _ _ _ (bit0 x0 x2 r) (congrArg (fun q => x0 (ix2 r q)) (Fin.ext (by first | rfl | (simp only []; omega)))) (congrArg (fun q => x3 (ix2 r q)) (Fin.ext (by first | rfl | (simp only []; omega)))) (congrArg (fun q => x3 (ix2 r q)) (Fin.ext (by first | rfl | (simp only []; omega))))

theorem g_dt0 (k : Fin 32) : (p1_5 x0 x2 x3 x4 (ix2 r ⟨96 + k.val, by omega⟩) : EReal) =
    mu (x0 (ix2 r 192)) ((x0 (ix2 r ⟨64 + k.val, by omega⟩) : EReal) - if mt x0 x2 r 0 < mt x0 x2 r 32 then (x4 (ix2 r ⟨32 + k.val, by omega⟩) : EReal) else x4 (ix2 r ⟨k.val, by omega⟩)) := by
  pointwise [p1_5, k1_pay17, k1_pay2, k1_pay8, k1_pay9, k1_pay10, k1_pay11]
  try simp (disch := omega) only [dif_pos, dif_neg]
  pointwise [k1_pay5, k1_pay2]
  exact step_sel _ _ _ _ _ _ _ _ _ (bit0 x0 x2 r) (congrArg (fun q => x0 (ix2 r q)) (Fin.ext (by first | rfl | (simp only []; omega)))) (congrArg (fun q => x4 (ix2 r q)) (Fin.ext (by first | rfl | (simp only []; omega)))) (congrArg (fun q => x4 (ix2 r q)) (Fin.ext (by first | rfl | (simp only []; omega))))

theorem g_dk1 (k : Fin 32) : (p1_5 x0 x2 x3 x4 (ix2 r ⟨128 + k.val, by omega⟩) : EReal) =
    mu (x0 (ix2 r 192)) ((x0 (ix2 r ⟨32 + k.val, by omega⟩) : EReal) - if mt x0 x2 r 64 < mt x0 x2 r 96 then (x2 (ix2 r ⟨96 + k.val, by omega⟩) : EReal) else x2 (ix2 r ⟨64 + k.val, by omega⟩)) := by
  pointwise [p1_5, k1_pay17, k1_pay2, k1_pay8, k1_pay9, k1_pay10, k1_pay11]
  try simp (disch := omega) only [dif_pos, dif_neg]
  pointwise [k1_pay15, k1_pay4, k1_pay9, k1_pay2]
  exact step_sel _ _ _ _ _ _ _ _ _ (bit1 x0 x2 r) (congrArg (fun q => x0 (ix2 r q)) (Fin.ext (by first | rfl | (simp only []; omega)))) (congrArg (fun q => x2 (ix2 r q)) (Fin.ext (by first | rfl | (simp only []; omega)))) (congrArg (fun q => x2 (ix2 r q)) (Fin.ext (by first | rfl | (simp only []; omega))))

theorem g_dv1 (k : Fin 64) : (p1_5 x0 x2 x3 x4 (ix2 r ⟨160 + k.val, by omega⟩) : EReal) =
    mu (x0 (ix2 r 192)) ((x0 (ix2 r ⟨128 + k.val, by omega⟩) : EReal) - if mt x0 x2 r 64 < mt x0 x2 r 96 then (x3 (ix2 r ⟨192 + k.val, by omega⟩) : EReal) else x3 (ix2 r ⟨128 + k.val, by omega⟩)) := by
  pointwise [p1_5, k1_pay17, k1_pay2, k1_pay8, k1_pay9, k1_pay10, k1_pay11]
  try simp (disch := omega) only [dif_pos, dif_neg]
  pointwise [k1_pay7, k1_pay2]
  exact step_sel _ _ _ _ _ _ _ _ _ (bit1 x0 x2 r) (congrArg (fun q => x0 (ix2 r q)) (Fin.ext (by first | rfl | (simp only []; omega)))) (congrArg (fun q => x3 (ix2 r q)) (Fin.ext (by first | rfl | (simp only []; omega)))) (congrArg (fun q => x3 (ix2 r q)) (Fin.ext (by first | rfl | (simp only []; omega))))

theorem g_dt1 (k : Fin 32) : (p1_5 x0 x2 x3 x4 (ix2 r ⟨224 + k.val, by omega⟩) : EReal) =
    mu (x0 (ix2 r 192)) ((x0 (ix2 r ⟨64 + k.val, by omega⟩) : EReal) - if mt x0 x2 r 64 < mt x0 x2 r 96 then (x4 (ix2 r ⟨96 + k.val, by omega⟩) : EReal) else x4 (ix2 r ⟨64 + k.val, by omega⟩)) := by
  pointwise [p1_5, k1_pay17, k1_pay2, k1_pay8, k1_pay9, k1_pay10, k1_pay11]
  try simp (disch := omega) only [dif_pos, dif_neg]
  pointwise [k1_pay5, k1_pay2]
  exact step_sel _ _ _ _ _ _ _ _ _ (bit1 x0 x2 r) (congrArg (fun q => x0 (ix2 r q)) (Fin.ext (by first | rfl | (simp only []; omega)))) (congrArg (fun q => x4 (ix2 r q)) (Fin.ext (by first | rfl | (simp only []; omega)))) (congrArg (fun q => x4 (ix2 r q)) (Fin.ext (by first | rfl | (simp only []; omega))))

theorem g_w0 (v : Nat) (h : x1 (ix2 r 0) = BitVec.ofNat 32 v) : p1_6 x0 x1 x2 (ix2 r 0) = BitVec.ofNat 32 (v * 2 + if mt x0 x2 r 0 < mt x0 x2 r 32 then 1 else 0) := by
  pointwise [p1_6, k1_pay18]
  rw [h]
  exact (row_word v 0 _ _ (bit0 x0 x2 r)).1

theorem g_w1 (v : Nat) (h : x1 (ix2 r 1) = BitVec.ofNat 32 v) : p1_6 x0 x1 x2 (ix2 r 1) = BitVec.ofNat 32 (131072 + v * 2 + if mt x0 x2 r 64 < mt x0 x2 r 96 then 1 else 0) := by
  pointwise [p1_6, k1_pay18]
  rw [h]
  exact (row_word v 131072 _ _ (bit1 x0 x2 r)).2

theorem g_s0 : (p1_7 x0 x2 x4 (ix2 r 0) : EReal) =
    mu (∑ k : Fin 32, mu (x2 (ix2 r ⟨k.val, by omega⟩)) (x0 (ix2 r ⟨k.val, by omega⟩))) (((Real.sqrt 32)⁻¹ : ℝ) : EReal)
      + ∑ k : Fin 32, mu (x4 (ix2 r ⟨k.val, by omega⟩)) (x0 (ix2 r ⟨96 + k.val, by omega⟩)) := by
  pointwise [p1_7, k1_pay1, k1_pay2, k1_pay3, k1_pay6, k1_pay9, k1_pay11, k1_pay19, k1_pay20, k1_pay21, k1_pay22, k1_pay23, k1_pay24]
  exact two_sums _ _ _ _ _ _ (fun k => rfl) (fun k => rfl) rsq_named

theorem g_s1 : (p1_7 x0 x2 x4 (ix2 r 1) : EReal) =
    mu (∑ k : Fin 32, mu (x2 (ix2 r ⟨32 + k.val, by omega⟩)) (x0 (ix2 r ⟨k.val, by omega⟩))) (((Real.sqrt 32)⁻¹ : ℝ) : EReal)
      + ∑ k : Fin 32, mu (x4 (ix2 r ⟨32 + k.val, by omega⟩)) (x0 (ix2 r ⟨96 + k.val, by omega⟩)) := by
  pointwise [p1_7, k1_pay1, k1_pay2, k1_pay3, k1_pay6, k1_pay9, k1_pay11, k1_pay19, k1_pay20, k1_pay21, k1_pay22, k1_pay23, k1_pay24]
  exact two_sums _ _ _ _ _ _ (fun k => rfl) (fun k => rfl) rsq_named

theorem g_s2 : (p1_7 x0 x2 x4 (ix2 r 2) : EReal) =
    mu (∑ k : Fin 32, mu (x2 (ix2 r ⟨64 + k.val, by omega⟩)) (x0 (ix2 r ⟨k.val, by omega⟩))) (((Real.sqrt 32)⁻¹ : ℝ) : EReal)
      + ∑ k : Fin 32, mu (x4 (ix2 r ⟨64 + k.val, by omega⟩)) (x0 (ix2 r ⟨96 + k.val, by omega⟩)) := by
  pointwise [p1_7, k1_pay1, k1_pay2, k1_pay3, k1_pay6, k1_pay9, k1_pay11, k1_pay19, k1_pay20, k1_pay21, k1_pay22, k1_pay23, k1_pay24]
  exact two_sums _ _ _ _ _ _ (fun k => rfl) (fun k => rfl) rsq_named

theorem g_s3 : (p1_7 x0 x2 x4 (ix2 r 3) : EReal) =
    mu (∑ k : Fin 32, mu (x2 (ix2 r ⟨96 + k.val, by omega⟩)) (x0 (ix2 r ⟨k.val, by omega⟩))) (((Real.sqrt 32)⁻¹ : ℝ) : EReal)
      + ∑ k : Fin 32, mu (x4 (ix2 r ⟨96 + k.val, by omega⟩)) (x0 (ix2 r ⟨96 + k.val, by omega⟩)) := by
  pointwise [p1_7, k1_pay1, k1_pay2, k1_pay3, k1_pay6, k1_pay9, k1_pay11, k1_pay19, k1_pay20, k1_pay21, k1_pay22, k1_pay23, k1_pay24]
  exact two_sums _ _ _ _ _ _ (fun k => rfl) (fun k => rfl) rsq_named

end Cert.KernelIdeal.Val

end
-- ==== Proof.KH4.lean ====
module

public import proofs.«01_k».proof.Proof.KH1
public import proofs.«01_k».proof.Proof.KH2
public import proofs.«01_k».proof.Proof.K1

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.StableHlo

section blocks
variable (V : (c : Dev nD) → (b : Ref sig .tc) → Buf (Elt Ideal) ((c : Thread nD τ).loc b)) (c : Dev nD) (n : Fin 8192)

/-- The second call's block of window 0, at the row that holds token `n`. -/
theorem blk1_0 (k : Fin 256) : (iblk1 V c 0 (pt1 n) : Vec Ideal S512x256 .f32) (ix2 (rw1 n) k) = (V c main_v8_0 : FVec Ideal S8192x256 .f32) (ix2 n k) := by
  blk_ext [iblk1, idx1 (pt1 n), rw1]
  all_goals first | done | (simp only [pt1]; omega)

/-- The second call's block of window 1, at the row that holds token `n`. -/
theorem blk1_1 (k : Fin 8) : (iblk1 V c 1 (pt1 n) : Vec Ideal S512x8 .i32) (ix2 (rw1 n) k) = (V c main_v8_1 : IVec S8192x8 32) (ix2 n k) := by
  blk_ext [iblk1, idx1 (pt1 n), rw1]
  all_goals first | done | (simp only [pt1]; omega)

/-- The second call's block of window 2, at the row that holds token `n`. -/
theorem blk1_2 (k : Fin 128) : (iblk1 V c 2 (pt1 n) : Vec Ideal S512x128 .f32) (ix2 (rw1 n) k) = (V c main_v35 : FVec Ideal S8192x128 .f32) (ix2 n k) := by
  blk_ext [iblk1, idx1 (pt1 n), rw1]
  all_goals first | done | (simp only [pt1]; omega)

/-- The second call's block of window 3, at the row that holds token `n`. -/
theorem blk1_3 (k : Fin 256) : (iblk1 V c 3 (pt1 n) : Vec Ideal S512x256 .f32) (ix2 (rw1 n) k) = (V c main_v43 : FVec Ideal S8192x256 .f32) (ix2 n k) := by
  blk_ext [iblk1, idx1 (pt1 n), rw1]
  all_goals first | done | (simp only [pt1]; omega)

/-- The second call's block of window 4, at the row that holds token `n`. -/
theorem blk1_4 (k : Fin 128) : (iblk1 V c 4 (pt1 n) : Vec Ideal S512x128 .f32) (ix2 (rw1 n) k) = (V c main_v51 : FVec Ideal S8192x128 .f32) (ix2 n k) := by
  blk_ext [iblk1, idx1 (pt1 n), rw1]
  all_goals first | done | (simp only [pt1]; omega)

end blocks

/-- The one of two entries a condition picks. -/
theorem pick (p : Prop) [Decidable p] (f : Fin 2 → EReal) : (if p then f 1 else f 0) = f (if p then 1 else 0) := by
  by_cases h : p
  · rw [if_pos h, if_pos h]
  · rw [if_neg h, if_neg h]

/-- The condition's number. -/
theorem pick_val (p : Prop) [Decidable p] : (if p then 1 else 0) = (if p then (1 : Fin 2) else 0).val := by
  by_cases h : p
  · rw [if_pos h, if_pos h]; rfl
  · rw [if_neg h, if_neg h]; rfl

theorem c0 (k : Fin 32) : k.val < 256 := by omega
theorem c1 (k : Fin 32) : 32 + k.val < 256 := by omega
theorem c2 (k : Fin 32) : 64 + k.val < 256 := by omega
theorem c3 (k : Fin 32) : 96 + k.val < 256 := by omega
theorem c4 (k : Fin 64) : 128 + k.val < 256 := by omega
theorem c5 (h : Fin 2) : h.val < 8 := by omega
theorem c6 (q : Fin 4) (k : Fin 32) : 32 * q.val + k.val < 128 := by omega
theorem c7 (q : Fin 4) (k : Fin 64) : 64 * q.val + k.val < 256 := by omega

section delta
variable (x0 : Vec Ideal S512x256 .f32) (x1 : Vec Ideal S512x8 .i32) (x2 : Vec Ideal S512x128 .f32) (x3 : Vec Ideal S512x256 .f32)
  (x4 : Vec Ideal S512x128 .f32) (r : Fin 512) (I : Spec.In) (n : Fin 8192)
  (htag : ∀ k : Fin 32, x0 (ix2 r ⟨k.val, c0 k⟩) = Spec.tag I n k) (hwkey : ∀ k : Fin 32, x0 (ix2 r ⟨32 + k.val, c1 k⟩) = Spec.wkey I n k)
  (hwtag : ∀ k : Fin 32, x0 (ix2 r ⟨64 + k.val, c2 k⟩) = Spec.wtag I n k) (hqtag : ∀ k : Fin 32, x0 (ix2 r ⟨96 + k.val, c3 k⟩) = Spec.qtag I n k)
  (hval : ∀ k : Fin 64, x0 (ix2 r ⟨128 + k.val, c4 k⟩) = Spec.val I n k) (hg : x0 (ix2 r 192) = Spec.gE I n)
  (h1 : ∀ h : Fin 2, x1 (ix2 r ⟨h.val, c5 h⟩) = BitVec.ofNat 32 (Spec.bk I n h).val)
  (h2 : ∀ (q : Fin 4) (k : Fin 32), x2 (ix2 r ⟨32 * q.val + k.val, c6 q k⟩) = I.K (Spec.hq q) (Spec.bk I n (Spec.hq q)) (Spec.aq q) k)
  (h3 : ∀ (q : Fin 4) (k : Fin 64), x3 (ix2 r ⟨64 * q.val + k.val, c7 q k⟩) = I.V (Spec.hq q) (Spec.bk I n (Spec.hq q)) (Spec.aq q) k)
  (h4 : ∀ (q : Fin 4) (k : Fin 32), x4 (ix2 r ⟨32 * q.val + k.val, c6 q k⟩) = I.T (Spec.hq q) (Spec.bk I n (Spec.hq q)) (Spec.aq q) k)

include hwkey h2 in
theorem mt_q (q : Fin 4) : mt x0 x2 r ⟨32 * q.val, by omega⟩ = Spec.mat I n (Spec.hq q) (Spec.aq q) :=
  Finset.sum_congr rfl fun k _ => congrArg₂ (· * ·) (h2 q k) (hwkey k)

/-- A step towards the target from the matched slot. -/
theorem step_of (g a c c' : EReal) (p p' : Prop) [Decidable p] [Decidable p'] (f : Fin 2 → EReal) (g' a' : EReal) (hg : g = g') (ha : a = a') (hp : p ↔ p')
    (h1 : c = f 1) (h0 : c' = f 0) : mu g (a - if p then c else c') = g' * (a' - f (if p' then 1 else 0)) := by
  subst hg ha h1 h0
  have e : (if p then f 1 else f 0) = f (if p' then 1 else 0) := by
    by_cases h : p
    · rw [if_pos h, if_pos (hp.1 h)]
    · rw [if_neg h, if_neg fun k => h (hp.2 k)]
  rw [e]

include hwkey h2 in
theorem lt_0 : mt x0 x2 r 0 < mt x0 x2 r 32 ↔ Spec.mat I n 0 0 < Spec.mat I n 0 1 := by
  have e0 : mt x0 x2 r 0 = Spec.mat I n 0 0 := mt_q x0 x2 r I n hwkey h2 0
  have e1 : mt x0 x2 r 32 = Spec.mat I n 0 1 := mt_q x0 x2 r I n hwkey h2 1
  rw [e0, e1]

include hwkey h2 hg in
theorem e_dk0 (k : Fin 32) : (p1_5 x0 x2 x3 x4 (ix2 r ⟨k.val, by omega⟩) : EReal) = Spec.dK I n 0 k :=
  (g_dk0 x0 x2 x3 x4 r k).trans (step_of _ _ _ _ _ _ (fun a => I.K 0 (Spec.bk I n 0) a k) _ _ hg (hwkey k) (lt_0 x0 x2 r I n hwkey h2)
    (h2 1 k) ((congrArg (fun p => x2 (ix2 r p)) (Fin.ext (by simp))).trans (h2 0 k)))

include hwkey h2 h3 hval hg in
theorem e_dv0 (k : Fin 64) : (p1_5 x0 x2 x3 x4 (ix2 r ⟨32 + k.val, by omega⟩) : EReal) = Spec.dV I n 0 k :=
  (g_dv0 x0 x2 x3 x4 r k).trans (step_of _ _ _ _ _ _ (fun a => I.V 0 (Spec.bk I n 0) a k) _ _ hg (hval k) (lt_0 x0 x2 r I n hwkey h2)
    (h3 1 k) ((congrArg (fun p => x3 (ix2 r p)) (Fin.ext (by simp))).trans (h3 0 k)))

include hwkey h2 h4 hwtag hg in
theorem e_dt0 (k : Fin 32) : (p1_5 x0 x2 x3 x4 (ix2 r ⟨96 + k.val, by omega⟩) : EReal) = Spec.dT I n 0 k :=
  (g_dt0 x0 x2 x3 x4 r k).trans (step_of _ _ _ _ _ _ (fun a => I.T 0 (Spec.bk I n 0) a k) _ _ hg (hwtag k) (lt_0 x0 x2 r I n hwkey h2)
    (h4 1 k) ((congrArg (fun p => x4 (ix2 r p)) (Fin.ext (by simp))).trans (h4 0 k)))

include hwkey h2 in
theorem lt_1 : mt x0 x2 r 64 < mt x0 x2 r 96 ↔ Spec.mat I n 1 0 < Spec.mat I n 1 1 := by
  have e0 : mt x0 x2 r 64 = Spec.mat I n 1 0 := mt_q x0 x2 r I n hwkey h2 2
  have e1 : mt x0 x2 r 96 = Spec.mat I n 1 1 := mt_q x0 x2 r I n hwkey h2 3
  rw [e0, e1]

include hwkey h2 hg in
theorem e_dk1 (k : Fin 32) : (p1_5 x0 x2 x3 x4 (ix2 r ⟨128 + k.val, by omega⟩) : EReal) = Spec.dK I n 1 k :=
  (g_dk1 x0 x2 x3 x4 r k).trans (step_of _ _ _ _ _ _ (fun a => I.K 1 (Spec.bk I n 1) a k) _ _ hg (hwkey k) (lt_1 x0 x2 r I n hwkey h2)
    (h2 3 k) (h2 2 k))

include hwkey h2 h3 hval hg in
theorem e_dv1 (k : Fin 64) : (p1_5 x0 x2 x3 x4 (ix2 r ⟨160 + k.val, by omega⟩) : EReal) = Spec.dV I n 1 k :=
  (g_dv1 x0 x2 x3 x4 r k).trans (step_of _ _ _ _ _ _ (fun a => I.V 1 (Spec.bk I n 1) a k) _ _ hg (hval k) (lt_1 x0 x2 r I n hwkey h2)
    (h3 3 k) (h3 2 k))

include hwkey h2 h4 hwtag hg in
theorem e_dt1 (k : Fin 32) : (p1_5 x0 x2 x3 x4 (ix2 r ⟨224 + k.val, by omega⟩) : EReal) = Spec.dT I n 1 k :=
  (g_dt1 x0 x2 x3 x4 r k).trans (step_of _ _ _ _ _ _ (fun a => I.T 1 (Spec.bk I n 1) a k) _ _ hg (hwtag k) (lt_1 x0 x2 r I n hwkey h2)
    (h4 3 k) (h4 2 k))

include hwkey h1 h2 in
theorem e_w0 : p1_6 x0 x1 x2 (ix2 r 0) = BitVec.ofNat 32 (0 * 131072 + (Spec.bk I n 0).val * 2 + (Spec.sl I n 0).val) := by
  refine (g_w0 x0 x1 x2 r _ (h1 0)).trans (congrArg (BitVec.ofNat 32) ?_)
  rw [if_congr (lt_0 x0 x2 r I n hwkey h2) rfl rfl, pick_val, Nat.zero_mul, Nat.zero_add]
  rfl

include hwkey h1 h2 in
theorem e_w1 : p1_6 x0 x1 x2 (ix2 r 1) = BitVec.ofNat 32 (1 * 131072 + (Spec.bk I n 1).val * 2 + (Spec.sl I n 1).val) := by
  refine (g_w1 x0 x1 x2 r _ (h1 1)).trans (congrArg (BitVec.ofNat 32) ?_)
  rw [if_congr (lt_1 x0 x2 r I n hwkey h2) rfl rfl, pick_val, Nat.one_mul]
  rfl

/-- A slot's score before the writes. -/
def score (I : Spec.In) (n : Fin 8192) (q : Fin 4) : EReal :=
  (∑ k : Fin 32, I.K (Spec.hq q) (Spec.bk I n (Spec.hq q)) (Spec.aq q) k * Spec.tag I n k) * (((Real.sqrt 32)⁻¹ : ℝ) : EReal)
    + ∑ k : Fin 32, I.T (Spec.hq q) (Spec.bk I n (Spec.hq q)) (Spec.aq q) k * Spec.qtag I n k

include htag hqtag h2 h4 in
theorem e_s0 : (p1_7 x0 x2 x4 (ix2 r 0) : EReal) = score I n 0 :=
  (g_s0 x0 x2 x4 r).trans (congrArg₂ (· + ·) (congrArg (fun z : EReal => z * (((Real.sqrt 32)⁻¹ : ℝ) : EReal))
    (Finset.sum_congr rfl fun k _ => congrArg₂ (· * ·) ((congrArg (fun p => x2 (ix2 r p)) (Fin.ext (by simp))).trans (h2 0 k)) (htag k))) (Finset.sum_congr rfl fun k _ => congrArg₂ (· * ·) ((congrArg (fun p => x4 (ix2 r p)) (Fin.ext (by simp))).trans (h4 0 k)) (hqtag k)))

include htag hqtag h2 h4 in
theorem e_s1 : (p1_7 x0 x2 x4 (ix2 r 1) : EReal) = score I n 1 :=
  (g_s1 x0 x2 x4 r).trans (congrArg₂ (· + ·) (congrArg (fun z : EReal => z * (((Real.sqrt 32)⁻¹ : ℝ) : EReal))
    (Finset.sum_congr rfl fun k _ => congrArg₂ (· * ·) (h2 1 k) (htag k))) (Finset.sum_congr rfl fun k _ => congrArg₂ (· * ·) (h4 1 k) (hqtag k)))

include htag hqtag h2 h4 in
theorem e_s2 : (p1_7 x0 x2 x4 (ix2 r 2) : EReal) = score I n 2 :=
  (g_s2 x0 x2 x4 r).trans (congrArg₂ (· + ·) (congrArg (fun z : EReal => z * (((Real.sqrt 32)⁻¹ : ℝ) : EReal))
    (Finset.sum_congr rfl fun k _ => congrArg₂ (· * ·) (h2 2 k) (htag k))) (Finset.sum_congr rfl fun k _ => congrArg₂ (· * ·) (h4 2 k) (hqtag k)))

include htag hqtag h2 h4 in
theorem e_s3 : (p1_7 x0 x2 x4 (ix2 r 3) : EReal) = score I n 3 :=
  (g_s3 x0 x2 x4 r).trans (congrArg₂ (· + ·) (congrArg (fun z : EReal => z * (((Real.sqrt 32)⁻¹ : ℝ) : EReal))
    (Finset.sum_congr rfl fun k _ => congrArg₂ (· * ·) (h2 3 k) (htag k))) (Finset.sum_congr rfl fun k _ => congrArg₂ (· * ·) (h4 3 k) (hqtag k)))

end delta

end Cert.KernelIdeal.Val

end
-- ==== Proof.KH3.lean ====
module

public import proofs.«01_k».proof.Proof.KH2

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.StableHlo

/-- A small number's word, read signed, is the number. -/
theorem signed_word {v : Nat} (hv : v < 2 ^ 31) : (BitVec.ofNat 32 v).toInt = (v : Int) := by
  rw [BitVec.toInt_eq_toNat_of_lt] <;> simp only [BitVec.toNat_ofNat] <;> omega

/-- Where an added row lands, for a row word below the table's size. -/
theorem lands (idx : IVec S16384x1 32) (j : Fin 16384) (k' : Fin 128) (p' : Fin 262144) (h0 : idx (ix2 j 0) = BitVec.ofNat 32 p'.val) (p : Fin 262144) (k : Fin 128) :
    scatter_S262144x128_S16384x1_S16384x128_1_0_0_1.resultIdx? (ix2 j k') idx = some (ix2 p k) ↔ p' = p ∧ k' = k := by
  have hs : scatter_S262144x128_S16384x1_S16384x128_1_0_0_1.siIdx (ix2 j k') ⟨0, by decide⟩ = (ix2 j 0 : S16384x1.Idx) := by
    funext b; match b with
    | ⟨0, _⟩ => rfl
    | ⟨1, _⟩ => rfl
  have hp := p'.isLt
  have e0 : scatter_S262144x128_S16384x1_S16384x128_1_0_0_1.start (ix2 j k') idx 0 + (scatter_S262144x128_S16384x1_S16384x128_1_0_0_1.window (ix2 j k') 0 : Int) = p'.val := by
    show (idx (scatter_S262144x128_S16384x1_S16384x128_1_0_0_1.siIdx (ix2 j k') ⟨0, by decide⟩)).toInt + 0 = _
    rw [hs, h0, signed_word (by omega)]; omega
  have e1 : scatter_S262144x128_S16384x1_S16384x128_1_0_0_1.start (ix2 j k') idx 1 + (scatter_S262144x128_S16384x1_S16384x128_1_0_0_1.window (ix2 j k') 1 : Int) = k'.val := by
    show (0 : Int) + (k'.val : Int) = _
    omega
  rw [Routing.resultIdx?_eq_some]
  constructor
  · intro q
    have q0 := e0.symm.trans (q 0)
    have q1 := e1.symm.trans (q 1)
    exact ⟨Fin.ext (Int.ofNat.inj q0), Fin.ext (Int.ofNat.inj q1)⟩
  · rintro ⟨rfl, rfl⟩ ax
    match ax with
    | ⟨0, _⟩ => exact e0
    | ⟨1, _⟩ => exact e1

/-- A row of the table after the additions: its entry and the added rows that land there. -/
theorem scatter_at (x : FVec Ideal S262144x128 .f32) (idx : IVec S16384x1 32) (upd : FVec Ideal S16384x128 .f32) (wr : Fin 16384 → Fin 262144)
    (h0 : ∀ j, idx (ix2 j 0) = BitVec.ofNat 32 (wr j).val) (p : Fin 262144) (k : Fin 128) :
    Host.scatterAdd (F := Ideal) scatter_S262144x128_S16384x1_S16384x128_1_0_0_1 x idx upd (ix2 p k)
      = ((x (ix2 p k) : EReal) + ∑ j : Fin 16384, if wr j = p then (upd (ix2 j k) : EReal) else 0 : EReal) := by
  show Ideal.hostScatterAdd scatter_S262144x128_S16384x1_S16384x128_1_0_0_1 x idx upd (ix2 p k) = _
  unfold Ideal.hostScatterAdd
  rw [Finset.sum_filter, sum_idx2]
  refine congrArg (fun z : EReal => (x (ix2 p k) : EReal) + z) ?_
  refine Finset.sum_congr rfl fun j _ => ?_
  simp only [lands idx j _ _ (h0 j)]
  rw [Finset.sum_eq_single k]
  · simp only [and_true]
  · intro k' _ hk; rw [if_neg fun q => hk q.2]
  · intro q; exact absurd (Finset.mem_univ _) q

/-- A sum over the added rows, by token and hash. -/
theorem sum_pairs (f : Fin 16384 → EReal) : ∑ j, f j = ∑ n : Fin 8192, ∑ h : Fin 2, f ⟨2 * n.val + h.val, by omega⟩ := by
  have e : ∑ j, f j = ∑ t : Fin 8192 × Fin 2, f ⟨2 * t.1.val + t.2.val, by omega⟩ := by
    refine Fintype.sum_equiv ⟨fun j => ((⟨j.val / 2, by omega⟩ : Fin 8192), (⟨j.val % 2, by omega⟩ : Fin 2)), fun t => ⟨2 * t.1.val + t.2.val, by omega⟩, fun j => ?_, fun t => ?_⟩ _ _ fun j => ?_
    · exact Fin.ext (by simp only []; omega)
    · exact Prod.ext (Fin.ext (by simp only []; omega)) (Fin.ext (by simp only []; omega))
    · exact congrArg f (Fin.ext (by simp only [Equiv.coe_fn_mk]; omega))
  rw [e, Fintype.sum_prod_type]

/-- The row a token's write goes to, one per hash. -/
def wrow (bk : Fin 8192 → Fin 2 → Fin 65536) (sl : Fin 8192 → Fin 2 → Fin 2) (j : Fin 16384) : Fin 262144 :=
  ⟨j.val % 2 * 131072 + (bk ⟨j.val / 2, by omega⟩ ⟨j.val % 2, by omega⟩).val * 2 + (sl ⟨j.val / 2, by omega⟩ ⟨j.val % 2, by omega⟩).val, by
    have := (bk ⟨j.val / 2, by omega⟩ ⟨j.val % 2, by omega⟩).isLt
    have := (sl ⟨j.val / 2, by omega⟩ ⟨j.val % 2, by omega⟩).isLt
    omega⟩

/-- Row numbers tell the hash, the bucket and the slot apart. -/
theorem wrow_eq (bk : Fin 8192 → Fin 2 → Fin 65536) (sl : Fin 8192 → Fin 2 → Fin 2) (n' n : Fin 8192) (h : Fin 2) (q : Fin 4) :
    wrow bk sl ⟨2 * n'.val + h.val, by omega⟩ = row bk n q ↔ h = Spec.hq q ∧ bk n' h = bk n (Spec.hq q) ∧ sl n' h = Spec.aq q := by
  have e : (wrow bk sl ⟨2 * n'.val + h.val, by omega⟩).val = h.val * 131072 + (bk n' h).val * 2 + (sl n' h).val := by
    have e1 : (⟨(2 * n'.val + h.val) / 2, by omega⟩ : Fin 8192) = n' := Fin.ext (by simp only []; omega)
    have e2 : (⟨(2 * n'.val + h.val) % 2, by omega⟩ : Fin 2) = h := Fin.ext (by simp only []; omega)
    have e3 : (2 * n'.val + h.val) % 2 = h.val := by omega
    simp only [wrow, e1, e2, e3]
  have h1 := (bk n' h).isLt
  have h2 := (bk n (Spec.hq q)).isLt
  have h3 := (sl n' h).isLt
  have h4 := h.isLt
  have h5 := q.isLt
  rw [Fin.ext_iff, Fin.ext_iff, Fin.ext_iff, Fin.ext_iff, e]
  show h.val * 131072 + (bk n' h).val * 2 + (sl n' h).val = q.val / 2 * 131072 + (bk n (Spec.hq q)).val * 2 + q.val % 2
    ↔ h.val = q.val / 2 ∧ (bk n' h).val = (bk n (Spec.hq q)).val ∧ (sl n' h).val = q.val % 2
  omega

/-- The rows that land on slot `q` of token `n`'s buckets, added. -/
theorem landed (bk : Fin 8192 → Fin 2 → Fin 65536) (sl : Fin 8192 → Fin 2 → Fin 2) (f : Fin 16384 → EReal) (n : Fin 8192) (q : Fin 4) :
    (∑ j, if wrow bk sl j = row bk n q then f j else 0)
      = ∑ n' : Fin 8192, if bk n' (Spec.hq q) = bk n (Spec.hq q) ∧ sl n' (Spec.hq q) = Spec.aq q then f ⟨2 * n'.val + q.val / 2, by omega⟩ else 0 := by
  rw [sum_pairs]
  refine Finset.sum_congr rfl fun n' _ => ?_
  simp only [wrow_eq]
  rw [Finset.sum_eq_single (Spec.hq q)]
  · simp only [true_and]
  · intro h _ hh; rw [if_neg fun p => hh p.1]
  · intro p; exact absurd (Finset.mem_univ _) p

/-- A wrapped row index of the additions reads its word. -/
theorem wrapped2 (w : IVec S16384 32) (j : Fin 16384) (h : (w (ix1 j)).toNat < 2 ^ 31) :
    (broadcastInDim S16384x1 ![0] bcast_S16384_S16384x1_0 (select (cmpi CmpIPredicate.slt w (broadcastInDim S16384 ![] bcast_S_S16384 (constantI S_ 32 0#32)))
      (addi w (broadcastInDim S16384 ![] bcast_S_S16384 (constantI S_ 32 262144#32))) w) : IVec S16384x1 32) (ix2 j 0) = w (ix1 j) := by
  pointwise []
  exact Routing.wrap_of_lt _ _ h

/-- The words of the rows the writes go to. -/
def ww (W : IVec S8192x8 32) : IVec S16384 32 := fun i =>
  W (ix2 ⟨(i 0).val / 2, by have := (i 0).isLt; change _ < 16384 at this; omega⟩ ⟨(i 0).val % 2, by omega⟩)

theorem wrapped2_row (bk : Fin 8192 → Fin 2 → Fin 65536) (sl : Fin 8192 → Fin 2 → Fin 2) (W : IVec S8192x8 32)
    (hW : ∀ (n : Fin 8192) (h : Fin 2), W (ix2 n ⟨h.val, by omega⟩) = BitVec.ofNat 32 (h.val * 131072 + (bk n h).val * 2 + (sl n h).val)) (j : Fin 16384) :
    (broadcastInDim S16384x1 ![0] bcast_S16384_S16384x1_0 (select (cmpi CmpIPredicate.slt (ww W) (broadcastInDim S16384 ![] bcast_S_S16384 (constantI S_ 32 0#32)))
      (addi (ww W) (broadcastInDim S16384 ![] bcast_S_S16384 (constantI S_ 32 262144#32))) (ww W)) : IVec S16384x1 32) (ix2 j 0) = BitVec.ofNat 32 (wrow bk sl j).val := by
  have e : ww W (ix1 j) = BitVec.ofNat 32 (wrow bk sl j).val := hW ⟨j.val / 2, by omega⟩ ⟨j.val % 2, by omega⟩
  rw [wrapped2, e]
  have := (wrow bk sl j).isLt
  rw [e, BitVec.toNat_ofNat]
  omega

theorem d0 (n : Fin 8192) (q : Fin 4) : 4 * n.val + q.val < 32768 := by omega
theorem d1 (h : Fin 2) : h.val < 8 := by omega

variable (b : Valuation τ sig (Elt Ideal)) (bk : Fin 8192 → Fin 2 → Fin 65536) (sl : Fin 8192 → Fin 2 → Fin 2)
  (hw : ∀ n q, (b (Proc.devRef .tc main_v24) : IVec S32768 32) (ix1 ⟨4 * n.val + q.val, d0 n q⟩) = BitVec.ofNat 32 (row bk n q).val)
  (hW : ∀ (n : Fin 8192) (h : Fin 2), (b (Proc.devRef .tc main_v52_1) : IVec S8192x8 32) (ix2 n ⟨h.val, d1 h⟩) = BitVec.ofNat 32 (h.val * 131072 + (bk n h).val * 2 + (sl n h).val))
  (dR : Fin 8192 → Fin 256 → EReal) (hR : ∀ n j, (b (Proc.devRef .tc main_v52_0) : FVec Ideal S8192x256 .f32) (ix2 n j) = dR n j)

include hw hW hR in
/-- What the writes add to slot `q` of token `n`'s buckets. -/
theorem h_v71 (n : Fin 8192) (q : Fin 4) (k : Fin 128) : (after hostOps2 b (Proc.devRef .tc main_v71) : FVec Ideal S8192x512 .f32) (ix2 n ⟨128 * q.val + k.val, by omega⟩)
    = ∑ n' : Fin 8192, if bk n' (Spec.hq q) = bk n (Spec.hq q) ∧ sl n' (Spec.hq q) = Spec.aq q then
        dR n' ⟨128 * (q.val / 2) + k.val, by omega⟩ else 0 := by
  after_reads_at
  refine (rows128 bk (b (Proc.devRef .tc main_v24)) hw _ n q k _ _ (by first | omega | (simp only []; omega)) (by first | omega | (simp only []; omega))).trans ?_
  refine (scatter_at _ _ _ (wrow bk sl) (wrapped2_row bk sl (b (Proc.devRef .tc main_v52_1)) hW) (row bk n q) k).trans ?_
  rw [landed]
  have z : broadcastInDim S262144x128 ![] bcast_S_S262144x128 (constant S_ FTy.f32 0#32 : FVec Ideal S_ .f32) (ix2 (row bk n q) k) = (0 : EReal) := by
    pointwise []
  refine (congrArg₂ (fun (a c : EReal) => a + c) z (Finset.sum_congr rfl fun n' _ => ?_)).trans (zero_add _)
  refine if_congr Iff.rfl ?_ rfl
  refine Eq.trans ?_ (hR n' _)
  show (b (Proc.devRef .tc main_v52_0) : FVec Ideal S8192x256 .f32) (ix2 ⟨(2 * n'.val + q.val / 2) / 2, _⟩ ⟨(2 * n'.val + q.val / 2) % 2 * 128 + k.val, _⟩) = _
  exact congrArg₂ (fun i j => (b (Proc.devRef .tc main_v52_0) : FVec Ideal S8192x256 .f32) (ix2 i j)) (Fin.ext (by simp only []; omega)) (Fin.ext (by simp only []; omega))

end Cert.KernelIdeal.Val

end
-- ==== Proof.R2.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- Every window of the third call moves down its array one block of 512 rows per point; the output weights stay. -/
theorem idx2 : ∀ t : Fin cfg2.N, win2_0.index t = ![t.val, 0] ∧ win2_1.index t = ![t.val, 0] ∧ win2_2.index t = ![t.val, 0]
    ∧ win2_3.index t = ![t.val, 0] ∧ win2_4.index t = ![0, 0] ∧ win2_5.index t = ![t.val, 0] :=
  (by decide +kernel : ∀ t : Fin grid2.N, _)

/-- The point whose blocks hold row `n`. -/
def pt2 (n : Fin 8192) : Fin cfg2.N := ⟨n.val / 512, by have := n.isLt; show n.val / 512 < 16; omega⟩

/-- The row of its block that holds row `n`. -/
def rw2 (n : Fin 8192) : Fin 512 := ⟨n.val % 512, Nat.mod_lt _ (by decide)⟩

/-- The result's block over the input blocks. -/
def p2_5 (x0 : Vec Ideal S512x256 .f32) (x1 : Vec Ideal S512x256 .f32) (x2 : Vec Ideal S512x512 .f32) (x3 : Vec Ideal S512x8 .f32)
    (x4 : Vec Ideal S64x1024 .f32) : Vec Ideal S512x1024 .f32 :=
  k2_pay1 (k2_pay9 x1 x2) (k2_pay13 (k2_pay5 x1) (k2_pay10 x2)) (k2_pay14 (k2_pay5 x1) (k2_pay6 x2)) (k2_pay15 (k2_pay5 x1) (k2_pay6 x2))
    (k2_pay16 (k2_pay3 x0) (k2_pay4 x0) (k2_pay6 x2) (k2_pay7 x3) (k2_pay8 x0 x2 x3) (k2_pay11 x0 x2 x3) (k2_pay12 x0 x2))
    (k2_pay17 (k2_pay3 x0) (k2_pay4 x0) (k2_pay6 x2) (k2_pay7 x3) (k2_pay8 x0 x2 x3) (k2_pay11 x0 x2 x3) (k2_pay12 x0 x2)) x4

/-- What the body leaves in the result' buffer. -/
theorem out2_5_eq (x0 : Vec Ideal S512x256 .f32) (x1 : Vec Ideal S512x256 .f32) (x2 : Vec Ideal S512x512 .f32) (x3 : Vec Ideal S512x8 .f32)
    (x4 : Vec Ideal S64x1024 .f32) : out2_5 x0 x1 x2 x3 x4 = p2_5 x0 x1 x2 x3 x4 := by
  funext y
  unfold_out out2_5
  frame_out
  unfold p2_5
  first | done | rfl

/-- Row `n` of the result is its row of the block its point computes. -/
theorem final2_5 (c : Dev nD) (n : Fin 8192) (k : Fin 1024) :
    ((dat2 V c).arrAt 5 cfg2.N : FVec Ideal S8192x1024 .f32) (ix2 n k) = p2_5 (iblk2 V c 0 (pt2 n)) (iblk2 V c 1 (pt2 n)) (iblk2 V c 2 (pt2 n)) (iblk2 V c 3 (pt2 n)) (iblk2 V c 4 (pt2 n)) (ix2 (rw2 n) k) := by
  have h : (dat2 V c).arrAt 5 cfg2.N = (fun j : S8192x1024.Idx =>
      p2_5 (iblk2 V c 0 (pt2 (j 0))) (iblk2 V c 1 (pt2 (j 0))) (iblk2 V c 2 (pt2 (j 0))) (iblk2 V c 3 (pt2 (j 0))) (iblk2 V c 4 (pt2 (j 0))) (ix2 (rw2 (j 0)) (j 1))) := by
    refine (dat2 V c).arrAt_eq_of_covers 5 _ (by decide +kernel) fun t _ y => ?_
    have e0 : pt2 ((((cfg2.win 5).blk t).view.emb y : S8192x1024.Idx) 0) = t := by
      apply Fin.ext
      show ((((cfg2.win 5).blk t).view.emb y : S8192x1024.Idx) 0).val / 512 = t.val
      blk_simp [idx2 t]
      idx_bounds
      omega
    have e1 : ix2 (rw2 ((((cfg2.win 5).blk t).view.emb y : S8192x1024.Idx) 0)) ((((cfg2.win 5).blk t).view.emb y : S8192x1024.Idx) 1) = y := by
      funext a
      apply Fin.ext
      fin_cases a
      · show ((((cfg2.win 5).blk t).view.emb y : S8192x1024.Idx) 0).val % 512 = (y 0).val
        blk_simp [idx2 t]
        idx_bounds
        omega
      · show ((((cfg2.win 5).blk t).view.emb y : S8192x1024.Idx) 1).val = (y 1).val
        blk_simp [idx2 t]
    have e2 := congr (congrArg (fun (t' : Fin cfg2.N) (y' : S512x1024.Idx) => p2_5 (iblk2 V c 0 t') (iblk2 V c 1 t') (iblk2 V c 2 t') (iblk2 V c 3 t') (iblk2 V c 4 t') y') e0.symm) e1.symm
    blk_simp
    rw [after2_5, out2_5_eq]
    exact e2
  rw [h]
  rfl

end Cert.KernelIdeal.Val
-- ==== Proof.Consts.lean ====
module

public import Idealize.ShloMosaic.Lib.Pipeline.ValueKit
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.Spec

open Idealize.ShloMosaic

/-- The pattern of minus infinity. -/
theorem negInf : Ideal.ofBits .f32 0xFF800000#32 = (⊥ : EReal) := by simp [Ideal.ofBits, Ideal.ieee]

/-- The pattern of thirty-two. -/
theorem thirtyTwo : Ideal.ofBits .f32 0x42000000#32 = ((32 : ℝ) : EReal) := by
  simp [Ideal.ofBits, Ideal.ieee, -EReal.coe_mul]; norm_num

/-- The root of thirty-two. -/
theorem root : Ideal.sqrt (Ideal.ofBits .f32 0x42000000#32) = ((Real.sqrt 32 : ℝ) : EReal) := by
  rw [thirtyTwo, Ideal.sqrt_coe, if_neg (show ¬(32 : ℝ) < 0 by norm_num)]

end Cert.Spec

end
-- ==== Proof.K2.lean ====
module

public import proofs.«01_k».proof.Proof.R2
public import proofs.«01_k».proof.Proof.K1
public import proofs.«01_k».proof.Proof.Consts

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.StableHlo

/-- The softmax from its logits and the fold's start. -/
theorem soft_of (l l' : Fin 4 → EReal) (e : EReal) (q : Fin 4) (he : e = ⊥) (h : ∀ q, l q = l' q) :
    Ideal.div (Ideal.exp (l q - Finset.fold max e l Finset.univ)) (∑ x, Ideal.exp (l x - Finset.fold max e l Finset.univ)) = Spec.soft l' q := by
  rw [funext h, he]
  rfl

/-- A score, a scaled sum and a sum. -/
theorem score_sums (a : EReal) (f g f' g' : Fin 32 → EReal) (q q' a' : EReal) (ha : a = a') (hf : ∀ k, f k = f' k) (hg : ∀ k, g k = g' k) (hq : q = q') :
    a + (∑ k, f k) * q + ∑ k, g k = a' + mu (∑ k, f' k) q' + ∑ k, g' k := by
  rw [funext hf, funext hg, hq, ha]

variable (x0 x1 : Vec Ideal S512x256 .f32) (x2 : Vec Ideal S512x512 .f32) (x3 : Vec Ideal S512x8 .f32) (x4 : Vec Ideal S64x1024 .f32) (r : Fin 512)

/-- The logit of slot `q`: its score before the writes, plus what the writes add to its key's and tag's scores. -/
def lg (q : Fin 4) : EReal :=
  (x3 (ix2 r ⟨q.val, by omega⟩) : EReal) + mu (∑ k : Fin 32, mu (x2 (ix2 r ⟨128 * q.val + k.val, by omega⟩)) (x0 (ix2 r ⟨k.val, by omega⟩))) (((Real.sqrt 32)⁻¹ : ℝ) : EReal)
    + ∑ k : Fin 32, mu (x2 (ix2 r ⟨128 * q.val + 96 + k.val, by omega⟩)) (x0 (ix2 r ⟨96 + k.val, by omega⟩))

theorem att (q : Fin 4) : (k2_pay16 (k2_pay3 x0) (k2_pay4 x0) (k2_pay6 x2) (k2_pay7 x3) (k2_pay8 x0 x2 x3) (k2_pay11 x0 x2 x3) (k2_pay12 x0 x2) (ix2 r q) : EReal)
    = Spec.soft (lg x0 x2 x3 r) q := by
  pointwise [k2_pay16, k2_pay3, k2_pay4, k2_pay6, k2_pay7, k2_pay8, k2_pay11, k2_pay12, k2_pay2]
  refine soft_of _ _ _ q Spec.negInf fun p => ?_
  obtain ⟨p, hp⟩ := p
  interval_cases p
  · rw [dif_pos (by simp)]
    exact score_sums _ _ _ _ _ _ _ _ rfl (fun k => congrArg₂ (· * ·) (congrArg (fun q => x2 (ix2 r q)) (Fin.ext (by simp))) rfl)
      (fun k => congrArg₂ (· * ·) (congrArg (fun q => x2 (ix2 r q)) (Fin.ext (by simp))) rfl) rsq_named
  · rw [dif_neg (by simp), dif_pos (by simp)]
    exact score_sums _ _ _ _ _ _ _ _ rfl (fun k => congrArg₂ (· * ·) (congrArg (fun q => x2 (ix2 r q)) (Fin.ext (by simp))) rfl)
      (fun k => congrArg₂ (· * ·) (congrArg (fun q => x2 (ix2 r q)) (Fin.ext (by simp))) rfl) rsq_named
  · rw [dif_neg (by simp), dif_neg (by simp), dif_pos (by simp)]
    exact score_sums _ _ _ _ _ _ _ _ rfl (fun k => congrArg₂ (· * ·) (congrArg (fun q => x2 (ix2 r q)) (Fin.ext (by simp))) rfl)
      (fun k => congrArg₂ (· * ·) (congrArg (fun q => x2 (ix2 r q)) (Fin.ext (by simp))) rfl) rsq_named
  · rw [dif_neg (by simp), dif_neg (by simp), dif_neg (by simp)]
    exact score_sums _ _ _ _ _ _ _ _ rfl (fun k => congrArg₂ (· * ·) (congrArg (fun q => x2 (ix2 r q)) (Fin.ext (by simp))) rfl)
      (fun k => congrArg₂ (· * ·) (congrArg (fun q => x2 (ix2 r q)) (Fin.ext (by simp))) rfl) rsq_named

/-- The value read from slot `q` after the writes. -/
def vr (q : Fin 4) (v : Fin 64) : EReal := (x1 (ix2 r ⟨64 * q.val + v.val, by omega⟩) : EReal) + (x2 (ix2 r ⟨128 * q.val + 32 + v.val, by omega⟩) : EReal)

theorem vr0 (v : Fin 64) : (k2_pay9 x1 x2 (ix2 r v) : EReal) = vr x1 x2 r 0 v := by
  pointwise [k2_pay9, k2_pay5, k2_pay6]
  exact congrArg₂ (· + ·) (congrArg (fun q => x1 (ix2 r q)) (Fin.ext (by simp))) (congrArg (fun q => x2 (ix2 r q)) (Fin.ext (by simp)))

theorem vr1 (v : Fin 64) : (k2_pay13 (k2_pay5 x1) (k2_pay10 x2) (ix2 r v) : EReal) = vr x1 x2 r 1 v := by
  pointwise [k2_pay13, k2_pay10, k2_pay5, k2_pay6]
  exact congrArg₂ (· + ·) (congrArg (fun q => x1 (ix2 r q)) (Fin.ext (by simp))) (congrArg (fun q => x2 (ix2 r q)) (Fin.ext (by simp)))

theorem vr2 (v : Fin 64) : (k2_pay14 (k2_pay5 x1) (k2_pay6 x2) (ix2 r v) : EReal) = vr x1 x2 r 2 v := by
  pointwise [k2_pay14, k2_pay10, k2_pay5, k2_pay6]
  exact congrArg₂ (· + ·) (congrArg (fun q => x1 (ix2 r q)) (Fin.ext (by simp))) (congrArg (fun q => x2 (ix2 r q)) (Fin.ext (by simp)))

theorem vr3 (v : Fin 64) : (k2_pay15 (k2_pay5 x1) (k2_pay6 x2) (ix2 r v) : EReal) = vr x1 x2 r 3 v := by
  pointwise [k2_pay15, k2_pay10, k2_pay5, k2_pay6]
  exact congrArg₂ (· + ·) (congrArg (fun q => x1 (ix2 r q)) (Fin.ext (by simp))) (congrArg (fun q => x2 (ix2 r q)) (Fin.ext (by simp)))

/-- Four weighted values are the sum over the slots. -/
theorem four (a0 a1 a2 a3 b0 b1 b2 b3 : EReal) (s t : Fin 4 → EReal) (h0 : a0 = s 0) (h1 : a1 = s 1) (h2 : a2 = s 2) (h3 : a3 = s 3)
    (k0 : b0 = t 0) (k1 : b1 = t 1) (k2 : b2 = t 2) (k3 : b3 = t 3) : a0 * b0 + a1 * b1 + a2 * b2 + a3 * b3 = ∑ q, s q * t q := by
  rw [Fin.sum_univ_four, h0, h1, h2, h3, k0, k1, k2, k3]

/-- A token's output over its blocks. -/
theorem out_at (j : Fin 1024) : (p2_5 x0 x1 x2 x3 x4 (ix2 r j) : EReal)
    = ∑ v : Fin 64, mu (∑ q : Fin 4, Spec.soft (lg x0 x2 x3 r) q * vr x1 x2 r q v) (x4 (ix2 v j)) := by
  pointwise [p2_5, k2_pay1, k2_pay17]
  exact Finset.sum_congr rfl fun v _ => congrArg₂ (· * ·) (four _ _ _ _ _ _ _ _ (Spec.soft (lg x0 x2 x3 r)) (fun q => vr x1 x2 r q v)
    (att x0 x2 x3 r 0) (att x0 x2 x3 r 1) (att x0 x2 x3 r 2) (att x0 x2 x3 r 3) (vr0 x1 x2 r v) (vr1 x1 x2 r v) (vr2 x1 x2 r v) (vr3 x1 x2 r v)) rfl

end Cert.KernelIdeal.Val

end
-- ==== Proof.KH5.lean ====
module

public import proofs.«01_k».proof.Proof.KH4
public import proofs.«01_k».proof.Proof.KH3
public import proofs.«01_k».proof.Proof.K2

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.StableHlo

variable (m : (ℓ : Loc nD τ sig) → Buf (Elt Ideal) ℓ) (ρ : Dev nD → PrngReg) (c : Dev nD)

/-! What the second call reads. -/

theorem B8_h (n : Fin 8192) (h : Fin 2) : B8 m ρ c (ix2 n ⟨h.val, by omega⟩) = BitVec.ofNat 32 (Spec.bk (I0 m ρ c) n h).val := by
  match h with
  | ⟨0, _⟩ => exact B8_zero m ρ c n
  | ⟨1, _⟩ => exact B8_one m ρ c n

theorem w9_35 (n : Fin 8192) (q : Fin 4) (k : Fin 32) : (W9 m ρ c (Proc.devRef .tc main_v35) : FVec Ideal S8192x128 .f32) (ix2 n ⟨32 * q.val + k.val, by omega⟩)
    = (I0 m ρ c).K (Spec.hq q) (Spec.bk (I0 m ρ c) n (Spec.hq q)) (Spec.aq q) k :=
  (h_v35 (Spec.bk (I0 m ρ c)) (W8 m ρ c) (B8_h m ρ c) n q k).trans
    (congrFun ((W8_args m ρ c main_arg9 (by decide)).trans (W0_args m ρ c main_arg9 (by decide)).symm) _)

theorem w9_43 (n : Fin 8192) (q : Fin 4) (k : Fin 64) : (W9 m ρ c (Proc.devRef .tc main_v43) : FVec Ideal S8192x256 .f32) (ix2 n ⟨64 * q.val + k.val, by omega⟩)
    = (I0 m ρ c).V (Spec.hq q) (Spec.bk (I0 m ρ c) n (Spec.hq q)) (Spec.aq q) k :=
  (h_v43 (Spec.bk (I0 m ρ c)) (W8 m ρ c) (B8_h m ρ c) n q k).trans
    (congrFun ((W8_args m ρ c main_arg10 (by decide)).trans (W0_args m ρ c main_arg10 (by decide)).symm) _)

theorem w9_51 (n : Fin 8192) (q : Fin 4) (k : Fin 32) : (W9 m ρ c (Proc.devRef .tc main_v51) : FVec Ideal S8192x128 .f32) (ix2 n ⟨32 * q.val + k.val, by omega⟩)
    = (I0 m ρ c).T (Spec.hq q) (Spec.bk (I0 m ρ c) n (Spec.hq q)) (Spec.aq q) k :=
  (h_v51 (Spec.bk (I0 m ρ c)) (W8 m ρ c) (B8_h m ρ c) n q k).trans
    (congrFun ((W8_args m ρ c main_arg11 (by decide)).trans (W0_args m ρ c main_arg11 (by decide)).symm) _)

theorem w9_F : W9 m ρ c (Proc.devRef .tc main_v8_0) = F8 m ρ c := W9_of m ρ c main_v8_0 (by decide)

theorem w9_B : W9 m ρ c (Proc.devRef .tc main_v8_1) = B8 m ρ c := W9_of m ρ c main_v8_1 (by decide)

/-- The second call's features. -/
theorem x0_1 (n : Fin 8192) (k : Fin 256) : (iblk1 (V9 m ρ) c 0 (pt1 n) : Vec Ideal S512x256 .f32) (ix2 (rw1 n) k) = F8 m ρ c (ix2 n k) :=
  (blk1_0 (V9 m ρ) c n k).trans (congrFun (w9_F m ρ c) (ix2 n k))

theorem x1_1 (n : Fin 8192) (h : Fin 2) : (iblk1 (V9 m ρ) c 1 (pt1 n) : Vec Ideal S512x8 .i32) (ix2 (rw1 n) ⟨h.val, by omega⟩) = BitVec.ofNat 32 (Spec.bk (I0 m ρ c) n h).val :=
  (blk1_1 (V9 m ρ) c n _).trans ((congrFun (w9_B m ρ c) _).trans (B8_h m ρ c n h))

theorem x2_1 (n : Fin 8192) (q : Fin 4) (k : Fin 32) : (iblk1 (V9 m ρ) c 2 (pt1 n) : Vec Ideal S512x128 .f32) (ix2 (rw1 n) ⟨32 * q.val + k.val, by omega⟩)
    = (I0 m ρ c).K (Spec.hq q) (Spec.bk (I0 m ρ c) n (Spec.hq q)) (Spec.aq q) k :=
  (blk1_2 (V9 m ρ) c n _).trans (w9_35 m ρ c n q k)

theorem x3_1 (n : Fin 8192) (q : Fin 4) (k : Fin 64) : (iblk1 (V9 m ρ) c 3 (pt1 n) : Vec Ideal S512x256 .f32) (ix2 (rw1 n) ⟨64 * q.val + k.val, by omega⟩)
    = (I0 m ρ c).V (Spec.hq q) (Spec.bk (I0 m ρ c) n (Spec.hq q)) (Spec.aq q) k :=
  (blk1_3 (V9 m ρ) c n _).trans (w9_43 m ρ c n q k)

theorem x4_1 (n : Fin 8192) (q : Fin 4) (k : Fin 32) : (iblk1 (V9 m ρ) c 4 (pt1 n) : Vec Ideal S512x128 .f32) (ix2 (rw1 n) ⟨32 * q.val + k.val, by omega⟩)
    = (I0 m ρ c).T (Spec.hq q) (Spec.bk (I0 m ρ c) n (Spec.hq q)) (Spec.aq q) k :=
  (blk1_4 (V9 m ρ) c n _).trans (w9_51 m ρ c n q k)

theorem y_tag (n : Fin 8192) (k : Fin 32) : (iblk1 (V9 m ρ) c 0 (pt1 n) : Vec Ideal S512x256 .f32) (ix2 (rw1 n) ⟨k.val, by omega⟩) = Spec.tag (I0 m ρ c) n k :=
  (x0_1 m ρ c n _).trans (F8_tag m ρ c n k)
theorem y_wkey (n : Fin 8192) (k : Fin 32) : (iblk1 (V9 m ρ) c 0 (pt1 n) : Vec Ideal S512x256 .f32) (ix2 (rw1 n) ⟨32 + k.val, by omega⟩) = Spec.wkey (I0 m ρ c) n k :=
  (x0_1 m ρ c n _).trans (F8_wkey m ρ c n k)
theorem y_wtag (n : Fin 8192) (k : Fin 32) : (iblk1 (V9 m ρ) c 0 (pt1 n) : Vec Ideal S512x256 .f32) (ix2 (rw1 n) ⟨64 + k.val, by omega⟩) = Spec.wtag (I0 m ρ c) n k :=
  (x0_1 m ρ c n _).trans (F8_wtag m ρ c n k)
theorem y_qtag (n : Fin 8192) (k : Fin 32) : (iblk1 (V9 m ρ) c 0 (pt1 n) : Vec Ideal S512x256 .f32) (ix2 (rw1 n) ⟨96 + k.val, by omega⟩) = Spec.qtag (I0 m ρ c) n k :=
  (x0_1 m ρ c n _).trans (F8_qtag m ρ c n k)
theorem y_val (n : Fin 8192) (k : Fin 64) : (iblk1 (V9 m ρ) c 0 (pt1 n) : Vec Ideal S512x256 .f32) (ix2 (rw1 n) ⟨128 + k.val, by omega⟩) = Spec.val (I0 m ρ c) n k :=
  (x0_1 m ρ c n _).trans (F8_val m ρ c n k)
theorem y_gate (n : Fin 8192) : (iblk1 (V9 m ρ) c 0 (pt1 n) : Vec Ideal S512x256 .f32) (ix2 (rw1 n) 192) = Spec.gE (I0 m ρ c) n :=
  (x0_1 m ρ c n _).trans (F8_gate m ρ c n)

/-! What the second call leaves. -/

/-- The deltas. -/
abbrev D10 : FVec Ideal S8192x256 .f32 := W10 m ρ c (Proc.devRef .tc main_v52_0)
/-- The rows they go to. -/
abbrev R10 : IVec S8192x8 32 := W10 m ρ c (Proc.devRef .tc main_v52_1)
/-- The scores before the writes. -/
abbrev S10 : FVec Ideal S8192x8 .f32 := W10 m ρ c (Proc.devRef .tc main_v52_2)

theorem D10_at (n : Fin 8192) (k : Fin 256) : D10 m ρ c (ix2 n k) = p1_5 (iblk1 (V9 m ρ) c 0 (pt1 n)) (iblk1 (V9 m ρ) c 2 (pt1 n)) (iblk1 (V9 m ρ) c 3 (pt1 n)) (iblk1 (V9 m ρ) c 4 (pt1 n)) (ix2 (rw1 n) k) :=
  (congrFun (W10_arr m ρ c 5) (ix2 n k)).trans (final1_5 (V9 m ρ) c n k)
theorem R10_at (n : Fin 8192) (k : Fin 8) : R10 m ρ c (ix2 n k) = p1_6 (iblk1 (V9 m ρ) c 0 (pt1 n)) (iblk1 (V9 m ρ) c 1 (pt1 n)) (iblk1 (V9 m ρ) c 2 (pt1 n)) (ix2 (rw1 n) k) :=
  (congrFun (W10_arr m ρ c 6) (ix2 n k)).trans (final1_6 (V9 m ρ) c n k)
theorem S10_at (n : Fin 8192) (k : Fin 8) : S10 m ρ c (ix2 n k) = p1_7 (iblk1 (V9 m ρ) c 0 (pt1 n)) (iblk1 (V9 m ρ) c 2 (pt1 n)) (iblk1 (V9 m ρ) c 4 (pt1 n)) (ix2 (rw1 n) k) :=
  (congrFun (W10_arr m ρ c 7) (ix2 n k)).trans (final1_7 (V9 m ρ) c n k)

theorem D10_dk (n : Fin 8192) (h : Fin 2) (k : Fin 32) : D10 m ρ c (ix2 n ⟨128 * h.val + k.val, by omega⟩) = Spec.dK (I0 m ρ c) n h k := by
  match h with
  | ⟨0, _⟩ =>
    refine (congrArg (fun q => D10 m ρ c (ix2 n q)) (Fin.ext (by simp))).trans ((D10_at m ρ c n _).trans (e_dk0 _ _ _ _ _ (I0 m ρ c) n (y_wkey m ρ c n) (y_gate m ρ c n) (x2_1 m ρ c n) k))
  | ⟨1, _⟩ =>
    refine (congrArg (fun q => D10 m ρ c (ix2 n q)) (Fin.ext (by simp))).trans ((D10_at m ρ c n _).trans (e_dk1 _ _ _ _ _ (I0 m ρ c) n (y_wkey m ρ c n) (y_gate m ρ c n) (x2_1 m ρ c n) k))

theorem D10_dv (n : Fin 8192) (h : Fin 2) (k : Fin 64) : D10 m ρ c (ix2 n ⟨128 * h.val + 32 + k.val, by omega⟩) = Spec.dV (I0 m ρ c) n h k := by
  match h with
  | ⟨0, _⟩ =>
    refine (congrArg (fun q => D10 m ρ c (ix2 n q)) (Fin.ext (by simp))).trans ((D10_at m ρ c n _).trans (e_dv0 _ _ _ _ _ (I0 m ρ c) n (y_wkey m ρ c n) (y_val m ρ c n) (y_gate m ρ c n) (x2_1 m ρ c n) (x3_1 m ρ c n) k))
  | ⟨1, _⟩ =>
    refine (congrArg (fun q => D10 m ρ c (ix2 n q)) (Fin.ext (by simp))).trans ((D10_at m ρ c n _).trans (e_dv1 _ _ _ _ _ (I0 m ρ c) n (y_wkey m ρ c n) (y_val m ρ c n) (y_gate m ρ c n) (x2_1 m ρ c n) (x3_1 m ρ c n) k))

theorem D10_dt (n : Fin 8192) (h : Fin 2) (k : Fin 32) : D10 m ρ c (ix2 n ⟨128 * h.val + 96 + k.val, by omega⟩) = Spec.dT (I0 m ρ c) n h k := by
  match h with
  | ⟨0, _⟩ =>
    refine (congrArg (fun q => D10 m ρ c (ix2 n q)) (Fin.ext (by simp))).trans ((D10_at m ρ c n _).trans (e_dt0 _ _ _ _ _ (I0 m ρ c) n (y_wkey m ρ c n) (y_wtag m ρ c n) (y_gate m ρ c n) (x2_1 m ρ c n) (x4_1 m ρ c n) k))
  | ⟨1, _⟩ =>
    refine (congrArg (fun q => D10 m ρ c (ix2 n q)) (Fin.ext (by simp))).trans ((D10_at m ρ c n _).trans (e_dt1 _ _ _ _ _ (I0 m ρ c) n (y_wkey m ρ c n) (y_wtag m ρ c n) (y_gate m ρ c n) (x2_1 m ρ c n) (x4_1 m ρ c n) k))

theorem R10_h (n : Fin 8192) (h : Fin 2) : R10 m ρ c (ix2 n ⟨h.val, by omega⟩)
    = BitVec.ofNat 32 (h.val * 131072 + (Spec.bk (I0 m ρ c) n h).val * 2 + (Spec.sl (I0 m ρ c) n h).val) := by
  match h with
  | ⟨0, _⟩ => exact (R10_at m ρ c n 0).trans (e_w0 _ _ _ _ (I0 m ρ c) n (y_wkey m ρ c n) (x1_1 m ρ c n) (x2_1 m ρ c n))
  | ⟨1, _⟩ => exact (R10_at m ρ c n 1).trans (e_w1 _ _ _ _ (I0 m ρ c) n (y_wkey m ρ c n) (x1_1 m ρ c n) (x2_1 m ρ c n))

theorem S10_q (n : Fin 8192) (q : Fin 4) : S10 m ρ c (ix2 n ⟨q.val, by omega⟩) = score (I0 m ρ c) n q := by
  match q with
  | ⟨0, _⟩ => exact (S10_at m ρ c n 0).trans (e_s0 _ _ _ _ (I0 m ρ c) n (y_tag m ρ c n) (y_qtag m ρ c n) (x2_1 m ρ c n) (x4_1 m ρ c n))
  | ⟨1, _⟩ => exact (S10_at m ρ c n 1).trans (e_s1 _ _ _ _ (I0 m ρ c) n (y_tag m ρ c n) (y_qtag m ρ c n) (x2_1 m ρ c n) (x4_1 m ρ c n))
  | ⟨2, _⟩ => exact (S10_at m ρ c n 2).trans (e_s2 _ _ _ _ (I0 m ρ c) n (y_tag m ρ c n) (y_qtag m ρ c n) (x2_1 m ρ c n) (x4_1 m ρ c n))
  | ⟨3, _⟩ => exact (S10_at m ρ c n 3).trans (e_s3 _ _ _ _ (I0 m ρ c) n (y_tag m ρ c n) (y_qtag m ρ c n) (x2_1 m ρ c n) (x4_1 m ρ c n))

/-! What the third call reads. -/

theorem w10_24 (n : Fin 8192) (q : Fin 4) : (W10 m ρ c (Proc.devRef .tc main_v24) : IVec S32768 32) (ix1 ⟨4 * n.val + q.val, by omega⟩)
    = BitVec.ofNat 32 (row (Spec.bk (I0 m ρ c)) n q).val := by
  have e : W10 m ρ c (Proc.devRef .tc main_v24) = sw (B8 m ρ c) := (W10_of m ρ c main_v24 (by decide)).trans (h_v24 (W8 m ρ c))
  exact (congrFun e _).trans (sw_at _ _ (B8_h m ρ c) n q)

theorem w11_71 (n : Fin 8192) (q : Fin 4) (k : Fin 128) (f : Fin 8192 → EReal)
    (hf : ∀ n' : Fin 8192, D10 m ρ c (ix2 n' ⟨128 * (q.val / 2) + k.val, by omega⟩) = f n') :
    (W11 m ρ c (Proc.devRef .tc main_v71) : FVec Ideal S8192x512 .f32) (ix2 n ⟨128 * q.val + k.val, by omega⟩)
    = Spec.acc (I0 m ρ c) f (Spec.hq q) (Spec.bk (I0 m ρ c) n (Spec.hq q)) (Spec.aq q) := by
  refine (h_v71 (W10 m ρ c) (Spec.bk (I0 m ρ c)) (Spec.sl (I0 m ρ c)) (w10_24 m ρ c) (R10_h m ρ c) (fun n k => D10 m ρ c (ix2 n k)) (fun _ _ => rfl) n q k).trans ?_
  simp only [hf]
  rfl

end Cert.KernelIdeal.Val

end
-- ==== Proof.KH6.lean ====
module

public import proofs.«01_k».proof.Proof.KH5

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.StableHlo

section blocks
variable (V : (c : Dev nD) → (b : Ref sig .tc) → Buf (Elt Ideal) ((c : Thread nD τ).loc b)) (c : Dev nD) (n : Fin 8192)

/-- The third call's block of window 0, at the row that holds token `n`. -/
theorem blk2_0 (k : Fin 256) : (iblk2 V c 0 (pt2 n) : Vec Ideal S512x256 .f32) (ix2 (rw2 n) k) = (V c main_v8_0 : FVec Ideal S8192x256 .f32) (ix2 n k) := by
  blk_ext [iblk2, idx2 (pt2 n), rw2]
  all_goals first | done | (simp only [pt2]; omega)

/-- The third call's block of window 1, at the row that holds token `n`. -/
theorem blk2_1 (k : Fin 256) : (iblk2 V c 1 (pt2 n) : Vec Ideal S512x256 .f32) (ix2 (rw2 n) k) = (V c main_v43 : FVec Ideal S8192x256 .f32) (ix2 n k) := by
  blk_ext [iblk2, idx2 (pt2 n), rw2]
  all_goals first | done | (simp only [pt2]; omega)

/-- The third call's block of window 2, at the row that holds token `n`. -/
theorem blk2_2 (k : Fin 512) : (iblk2 V c 2 (pt2 n) : Vec Ideal S512x512 .f32) (ix2 (rw2 n) k) = (V c main_v71 : FVec Ideal S8192x512 .f32) (ix2 n k) := by
  blk_ext [iblk2, idx2 (pt2 n), rw2]
  all_goals first | done | (simp only [pt2]; omega)

/-- The third call's block of window 3, at the row that holds token `n`. -/
theorem blk2_3 (k : Fin 8) : (iblk2 V c 3 (pt2 n) : Vec Ideal S512x8 .f32) (ix2 (rw2 n) k) = (V c main_v52_2 : FVec Ideal S8192x8 .f32) (ix2 n k) := by
  blk_ext [iblk2, idx2 (pt2 n), rw2]
  all_goals first | done | (simp only [pt2]; omega)

/-- The third call's output projection. -/
theorem blk2_4 (v : Fin 64) (k : Fin 1024) : (iblk2 V c 4 (pt2 n) : Vec Ideal S64x1024 .f32) (ix2 v k) = (V c main_arg4 : FVec Ideal S64x1024 .f32) (ix2 v k) := by
  blk_ext [iblk2, idx2 (pt2 n), rw2]
  all_goals first | done | (simp only [pt2]; omega)

end blocks

variable (m : (ℓ : Loc nD τ sig) → Buf (Elt Ideal) ℓ) (ρ : Dev nD → PrngReg) (c : Dev nD)

theorem w11_F : W11 m ρ c (Proc.devRef .tc main_v8_0) = F8 m ρ c :=
  (W11_of m ρ c main_v8_0 (by decide)).trans ((W10_of m ρ c main_v8_0 (by decide)).trans (w9_F m ρ c))

theorem w11_V : W11 m ρ c (Proc.devRef .tc main_v43) = W9 m ρ c (Proc.devRef .tc main_v43) :=
  (W11_of m ρ c main_v43 (by decide)).trans (W10_of m ρ c main_v43 (by decide))

theorem w11_S : W11 m ρ c (Proc.devRef .tc main_v52_2) = S10 m ρ c := W11_of m ρ c main_v52_2 (by decide)

theorem z_tag (n : Fin 8192) (k : Fin 32) : (iblk2 (V11 m ρ) c 0 (pt2 n) : Vec Ideal S512x256 .f32) (ix2 (rw2 n) ⟨k.val, by omega⟩) = Spec.tag (I0 m ρ c) n k :=
  (blk2_0 (V11 m ρ) c n _).trans ((congrFun (w11_F m ρ c) _).trans (F8_tag m ρ c n k))
theorem z_qtag (n : Fin 8192) (k : Fin 32) : (iblk2 (V11 m ρ) c 0 (pt2 n) : Vec Ideal S512x256 .f32) (ix2 (rw2 n) ⟨96 + k.val, by omega⟩) = Spec.qtag (I0 m ρ c) n k :=
  (blk2_0 (V11 m ρ) c n _).trans ((congrFun (w11_F m ρ c) _).trans (F8_qtag m ρ c n k))
theorem z_V (n : Fin 8192) (q : Fin 4) (v : Fin 64) : (iblk2 (V11 m ρ) c 1 (pt2 n) : Vec Ideal S512x256 .f32) (ix2 (rw2 n) ⟨64 * q.val + v.val, by omega⟩)
    = (I0 m ρ c).V (Spec.hq q) (Spec.bk (I0 m ρ c) n (Spec.hq q)) (Spec.aq q) v :=
  (blk2_1 (V11 m ρ) c n _).trans ((congrFun (w11_V m ρ c) _).trans (w9_43 m ρ c n q v))
theorem z_S (n : Fin 8192) (q : Fin 4) : (iblk2 (V11 m ρ) c 3 (pt2 n) : Vec Ideal S512x8 .f32) (ix2 (rw2 n) ⟨q.val, by omega⟩) = score (I0 m ρ c) n q :=
  (blk2_3 (V11 m ρ) c n _).trans ((congrFun (w11_S m ρ c) _).trans (S10_q m ρ c n q))
theorem z_wo (n : Fin 8192) (v : Fin 64) (j : Fin 1024) : (iblk2 (V11 m ρ) c 4 (pt2 n) : Vec Ideal S64x1024 .f32) (ix2 v j) = (I0 m ρ c).wo v j :=
  (blk2_4 (V11 m ρ) c n v j).trans (congrFun ((W11_args m ρ c main_arg4 (by decide)).trans (W0_args m ρ c main_arg4 (by decide)).symm) _)

theorem z_dk (n : Fin 8192) (q : Fin 4) (k : Fin 32) : (iblk2 (V11 m ρ) c 2 (pt2 n) : Vec Ideal S512x512 .f32) (ix2 (rw2 n) ⟨128 * q.val + k.val, by omega⟩)
    = Spec.acc (I0 m ρ c) (fun n' => Spec.dK (I0 m ρ c) n' (Spec.hq q) k) (Spec.hq q) (Spec.bk (I0 m ρ c) n (Spec.hq q)) (Spec.aq q) :=
  (blk2_2 (V11 m ρ) c n _).trans (w11_71 m ρ c n q ⟨k.val, by omega⟩ _ fun n' => D10_dk m ρ c n' (Spec.hq q) k)
theorem z_dv (n : Fin 8192) (q : Fin 4) (k : Fin 64) : (iblk2 (V11 m ρ) c 2 (pt2 n) : Vec Ideal S512x512 .f32) (ix2 (rw2 n) ⟨128 * q.val + 32 + k.val, by omega⟩)
    = Spec.acc (I0 m ρ c) (fun n' => Spec.dV (I0 m ρ c) n' (Spec.hq q) k) (Spec.hq q) (Spec.bk (I0 m ρ c) n (Spec.hq q)) (Spec.aq q) :=
  (blk2_2 (V11 m ρ) c n _).trans ((congrArg (fun p => (V11 m ρ c main_v71 : FVec Ideal S8192x512 .f32) (ix2 n p)) (Fin.ext (by simp only []; omega))).trans
    (w11_71 m ρ c n q ⟨32 + k.val, by omega⟩ _ fun n' => (congrArg (fun p => D10 m ρ c (ix2 n' p)) (Fin.ext (by simp only []; omega))).trans (D10_dv m ρ c n' (Spec.hq q) k)))
theorem z_dt (n : Fin 8192) (q : Fin 4) (k : Fin 32) : (iblk2 (V11 m ρ) c 2 (pt2 n) : Vec Ideal S512x512 .f32) (ix2 (rw2 n) ⟨128 * q.val + 96 + k.val, by omega⟩)
    = Spec.acc (I0 m ρ c) (fun n' => Spec.dT (I0 m ρ c) n' (Spec.hq q) k) (Spec.hq q) (Spec.bk (I0 m ρ c) n (Spec.hq q)) (Spec.aq q) :=
  (blk2_2 (V11 m ρ) c n _).trans ((congrArg (fun p => (V11 m ρ c main_v71 : FVec Ideal S8192x512 .f32) (ix2 n p)) (Fin.ext (by simp only []; omega))).trans
    (w11_71 m ρ c n q ⟨96 + k.val, by omega⟩ _ fun n' => (congrArg (fun p => D10 m ρ c (ix2 n' p)) (Fin.ext (by simp only []; omega))).trans (D10_dt m ρ c n' (Spec.hq q) k)))

/-- A slot's logit as the program forms it: the score before the writes, and what the writes add. -/
def klogit (I : Spec.In) (n : Fin 8192) (q : Fin 4) : EReal :=
  score I n q
    + (∑ k : Fin 32, Spec.acc I (fun n' => Spec.dK I n' (Spec.hq q) k) (Spec.hq q) (Spec.bk I n (Spec.hq q)) (Spec.aq q) * Spec.tag I n k) * (((Real.sqrt 32)⁻¹ : ℝ) : EReal)
    + ∑ k : Fin 32, Spec.acc I (fun n' => Spec.dT I n' (Spec.hq q) k) (Spec.hq q) (Spec.bk I n (Spec.hq q)) (Spec.aq q) * Spec.qtag I n k

theorem lg_eq (n : Fin 8192) (q : Fin 4) : lg (iblk2 (V11 m ρ) c 0 (pt2 n)) (iblk2 (V11 m ρ) c 2 (pt2 n)) (iblk2 (V11 m ρ) c 3 (pt2 n)) (rw2 n) q = klogit (I0 m ρ c) n q :=
  congrArg₂ (fun a b : EReal => a + b) (congrArg₂ (fun a b : EReal => a + b) (z_S m ρ c n q) (congrArg (fun z : EReal => z * (((Real.sqrt 32)⁻¹ : ℝ) : EReal))
    (Finset.sum_congr rfl fun k _ => congrArg₂ (· * ·) (z_dk m ρ c n q k) (z_tag m ρ c n k))))
    (Finset.sum_congr rfl fun k _ => congrArg₂ (· * ·) (z_dt m ρ c n q k) (z_qtag m ρ c n k))

theorem vr_eq (n : Fin 8192) (q : Fin 4) (v : Fin 64) : vr (iblk2 (V11 m ρ) c 1 (pt2 n)) (iblk2 (V11 m ρ) c 2 (pt2 n)) (rw2 n) q v = Spec.V2 (I0 m ρ c) n (Spec.hq q) (Spec.aq q) v :=
  congrArg₂ (fun a b : EReal => a + b) (z_V m ρ c n q v) (z_dv m ρ c n q v)

/-- The output from the logits as the program forms them. -/
def kout (I : Spec.In) (n : Fin 8192) (j : Fin 1024) : EReal :=
  ∑ v : Fin 64, (∑ q : Fin 4, Spec.soft (klogit I n) q * Spec.V2 I n (Spec.hq q) (Spec.aq q) v) * I.wo v j

theorem w12_72 (n : Fin 8192) (j : Fin 1024) : (W12 m ρ c (Proc.devRef .tc main_v72) : FVec Ideal S8192x1024 .f32) (ix2 n j) = kout (I0 m ρ c) n j := by
  refine (congrFun (W12_arr m ρ c 5) (ix2 n j)).trans ((final2_5 (V11 m ρ) c n j).trans ((out_at _ _ _ _ _ _ j).trans ?_))
  refine Finset.sum_congr rfl fun v _ => congrArg₂ (fun a b : EReal => a * b) (Finset.sum_congr rfl fun q _ => ?_) (z_wo m ρ c n v j)
  exact congrArg₂ (fun a b : EReal => a * b) (congrArg (fun l => Spec.soft l q) (funext fun p => lg_eq m ρ c n p)) (vr_eq m ρ c n q v)

theorem h_v73 (b : Valuation τ sig (Elt Ideal)) (n : Fin 2) (q : Fin 4096) (k : Fin 1024) : (after hostOps3 b (Proc.devRef .tc main_v73) : FVec Ideal S2x4096x1024 .f32) (ix3 n q k)
    = (b (Proc.devRef .tc main_v72) : FVec Ideal S8192x1024 .f32) (ix2 ⟨n.val * 4096 + q.val, by omega⟩ k) := by
  after_reads_at

/-- The program's result: token `n`'s output. -/
theorem v73_at (n : Fin 8192) (j : Fin 1024) : (W13 m ρ c (Proc.devRef .tc main_v73) : FVec Ideal S2x4096x1024 .f32) (ix3 ⟨n.val / 4096, by omega⟩ ⟨n.val % 4096, by omega⟩ j)
    = kout (I0 m ρ c) n j := by
  refine (h_v73 (W12 m ρ c) _ _ j).trans ?_
  refine (congrArg (fun p => (W12 m ρ c (Proc.devRef .tc main_v72) : FVec Ideal S8192x1024 .f32) (ix2 p j)) (Fin.ext (by simp only []; omega))).trans (w12_72 m ρ c n j)

end Cert.KernelIdeal.Val

end
-- ==== Proof.Alg.lean ====
module

public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.Spec

open Idealize.ShloMosaic

/-- An element that is a real number. -/
abbrev IsReal (x : EReal) : Prop := ∃ r : ℝ, x = (r : EReal)

theorem isReal_sum {ι : Type} (s : Finset ι) (f : ι → EReal) (h : ∀ i ∈ s, IsReal (f i)) : IsReal (∑ i ∈ s, f i) :=
  Finset.sum_induction f IsReal (fun _ _ ⟨a, ha⟩ ⟨b, hb⟩ => ⟨a + b, by rw [ha, hb, EReal.coe_add]⟩) ⟨0, rfl⟩ h

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_tanh (x : EReal) : IsReal (Ideal.tanh x) := by
  induction x with
  | bot => exact ⟨-1, by show (-1 : EReal) = _; simp⟩
  | top => exact ⟨1, by show (1 : EReal) = _; simp⟩
  | coe r => exact ⟨Real.tanh r, rfl⟩

/-- A real factor distributes over a sum with one real term, whatever the other term is. -/
theorem add_mul_real {x y t : EReal} (hx : IsReal x) (ht : IsReal t) : (x + y) * t = x * t + y * t := by
  obtain ⟨a, rfl⟩ := hx
  obtain ⟨b, rfl⟩ := ht
  have hab : ((a : EReal) * (b : EReal)) = ((a * b : ℝ) : EReal) := (EReal.coe_mul a b).symm
  induction y with
  | coe r => rw [← EReal.coe_add, ← EReal.coe_mul, ← EReal.coe_mul, ← EReal.coe_mul, ← EReal.coe_add, add_mul]
  | bot =>
    rw [EReal.add_bot]
    rcases lt_trichotomy b 0 with hb | hb | hb
    · rw [EReal.bot_mul_coe_of_neg hb, hab, EReal.coe_add_top]
    · rw [hb]; simp
    · rw [EReal.bot_mul_coe_of_pos hb, EReal.add_bot]
  | top =>
    rw [EReal.coe_add_top]
    rcases lt_trichotomy b 0 with hb | hb | hb
    · rw [EReal.top_mul_coe_of_neg hb, EReal.add_bot]
    · rw [hb]; simp
    · rw [EReal.top_mul_coe_of_pos hb, hab, EReal.coe_add_top]

/-- A product sum of rows that were added to splits, where the rows and the factors are real. -/
theorem sum_add_mul {ι : Type} [Fintype ι] (K d t : ι → EReal) (hK : ∀ k, IsReal (K k)) (ht : ∀ k, IsReal (t k)) :
    ∑ k, (K k + d k) * t k = ∑ k, K k * t k + ∑ k, d k * t k := by
  rw [← Finset.sum_add_distrib]
  exact Finset.sum_congr rfl fun k _ => add_mul_real (hK k) (ht k)

/-- The arguments the logits need real: the tokens, the query projection, the stored keys and the stored tags. -/
structure Fin₀ (I : In) : Prop where
  x : ∀ n c, IsReal (I.x n c)
  wq : ∀ c k, IsReal (I.wq c k)
  K : ∀ h i a k, IsReal (I.K h i a k)
  T : ∀ h i a k, IsReal (I.T h i a k)

/-- A slot's logit splits into the score before the writes and what the writes add to it. -/
theorem logit_split (I : In) (hI : Fin₀ I) (n : Fin 8192) (q : Fin 4) :
    (∑ k : Fin 32, I.K (hq q) (bk I n (hq q)) (aq q) k * tag I n k) * (((Real.sqrt 32)⁻¹ : ℝ) : EReal)
      + ∑ k : Fin 32, I.T (hq q) (bk I n (hq q)) (aq q) k * qtag I n k
      + (∑ k : Fin 32, acc I (fun n' => dK I n' (hq q) k) (hq q) (bk I n (hq q)) (aq q) * tag I n k) * (((Real.sqrt 32)⁻¹ : ℝ) : EReal)
      + ∑ k : Fin 32, acc I (fun n' => dT I n' (hq q) k) (hq q) (bk I n (hq q)) (aq q) * qtag I n k
    = logit I n q := by
  have htag : ∀ k, IsReal (tag I n k) := fun k => isReal_sum _ _ fun c _ => isReal_mul (hI.x n c) (hI.wq c k)
  have hqt : ∀ k, IsReal (qtag I n k) := fun k => isReal_tanh _
  have hp : 0 < Real.sqrt 32 := Real.sqrt_pos.mpr (by norm_num)
  unfold logit K2 T2
  rw [Ideal.div_coe hp.ne', sum_add_mul _ _ _ (fun k => hI.K _ _ _ k) htag, sum_add_mul _ _ _ (fun k => hI.T _ _ _ k) hqt,
    one_div, add_mul_real (isReal_sum _ _ fun k _ => isReal_mul (hI.K _ _ _ k) (htag k)) ⟨_, rfl⟩]
  rw [add_add_add_comm, add_assoc, add_assoc]

/-- The pattern of plus infinity. -/
theorem posInf : Ideal.ofBits .f32 0x7F800000#32 = (⊤ : EReal) := by simp [Ideal.ofBits, Ideal.ieee]

/-- An element whose absolute value lies below infinity is real. -/
theorem isReal_of_lt (x : EReal) (h : Ideal.cmp .olt (max x (-x)) (Ideal.ofBits .f32 0x7F800000#32) = 1#1) : IsReal x := by
  rw [posInf] at h
  induction x with
  | coe r => exact ⟨r, rfl⟩
  | bot => exact absurd h (by simp [Ideal.cmp])
  | top => exact absurd h (by simp [Ideal.cmp])

end Cert.Spec

end
-- ==== Proof.RefRun.lean ====
module

public import proofs.«01_k».proof.Proof.Gen.ReferenceIdeal
public import Idealize.ShloMosaic.Lib.StableHlo.Run
public import Idealize.ShloMosaic.Lib.Pipeline.Frame

@[expose] public section

set_option maxRecDepth 16384

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Idealize.ShloMosaic.StableHlo

variable {F : FTy → Type} [FloatOps F]

/-- Two index words side by side, a hash and its bucket. -/
def cat2 (a b : (⟨S8192x2x1, .i32⟩ : BufTy).Contents (Elt F)) : (⟨S8192x2x2, .i32⟩ : BufTy).Contents (Elt F) :=
  concatenate S8192x2x2 2 [⟨S8192x2x1, a⟩, ⟨S8192x2x1, b⟩] concatenates_S8192x2x1_S8192x2x1_S8192x2x2_d2

/-- Three index words side by side, a hash, its bucket and the slot. -/
def cat3 (a b c : (⟨S8192x2x1, .i32⟩ : BufTy).Contents (Elt F)) : (⟨S8192x2x3, .i32⟩ : BufTy).Contents (Elt F) :=
  concatenate S8192x2x3 2 [⟨S8192x2x1, a⟩, ⟨S8192x2x1, b⟩, ⟨S8192x2x1, c⟩] concatenates_S8192x2x1_S8192x2x1_S8192x2x1_S8192x2x3_d2

/-- The slot of the greatest match. -/
def argmax1 (x : (⟨S8192x2x2, .f32⟩ : BufTy).Contents (Elt F)) (y : (⟨S8192x2x2, .i32⟩ : BufTy).Contents (Elt F))
    (u : (⟨S_, .f32⟩ : BufTy).Contents (Elt F)) (v : (⟨S_, .i32⟩ : BufTy).Contents (Elt F)) : (⟨S8192x2, .i32⟩ : BufTy).Contents (Elt F) :=
  fun j => (Host.argReduce reducer_argmax_f32_i32 x y u v reducesTo_S8192x2x2_S8192x2_d2 h_S_ j).2

/-- The tokens, their tags and the buckets. -/
abbrev hashOps : List (HloOp τ sig (Elt F)) :=
  [ reshape main_arg0 main_v0 (rfl : (.f32 : EltTy) = .f32) shapeCasts_S2x4096x1024_S8192x1024,
    binary main_v0 main_arg1 main_v1 ((fun l r => Host.dotGeneral dot_S8192x1024_S1024x32_S8192x32_1_0_0_1_n_n none l r) : (⟨S8192x1024, .f32⟩ : BufTy).Contents (Elt F) → (⟨S1024x32, .f32⟩ : BufTy).Contents (Elt F) → (⟨S8192x32, .f32⟩ : BufTy).Contents (Elt F)),
    binary main_v1 main_arg8 main_v2 ((fun l r => Host.dotGeneral dot_S8192x32_S2x32x16_S8192x2x16_1_1_0_02_n_n none l r) : (⟨S8192x32, .f32⟩ : BufTy).Contents (Elt F) → (⟨S2x32x16, .f32⟩ : BufTy).Contents (Elt F) → (⟨S8192x2x16, .f32⟩ : BufTy).Contents (Elt F)),
    nullary main_cst (constant S_ .f32 0x00000000#32),
    unary main_cst main_v3 (broadcastInDim S8192x2x16 ![] bcast_S_S8192x2x16 : (⟨S_, .f32⟩ : BufTy).Contents (Elt F) → (⟨S8192x2x16, .f32⟩ : BufTy).Contents (Elt F)),
    binary main_v2 main_v3 main_v4 (cmpf .ogt : (⟨S8192x2x16, .f32⟩ : BufTy).Contents (Elt F) → (⟨S8192x2x16, .f32⟩ : BufTy).Contents (Elt F) → (⟨S8192x2x16, .i1⟩ : BufTy).Contents (Elt F)),
    unary main_v4 main_v5 ((extui 32 · natLt_1_32) : (⟨S8192x2x16, .i1⟩ : BufTy).Contents (Elt F) → (⟨S8192x2x16, .i32⟩ : BufTy).Contents (Elt F)),
    nullary main_v6 (iotaInDim S16 32 0),
    nullary main_c (constantI S_ 32 1#32),
    unary main_c main_v7 (broadcastInDim S16 ![] bcast_S_S16 : (⟨S_, .i32⟩ : BufTy).Contents (Elt F) → (⟨S16, .i32⟩ : BufTy).Contents (Elt F)),
    binary main_v7 main_v6 main_v8 (Host.shli : (⟨S16, .i32⟩ : BufTy).Contents (Elt F) → (⟨S16, .i32⟩ : BufTy).Contents (Elt F) → (⟨S16, .i32⟩ : BufTy).Contents (Elt F)),
    unary main_v8 main_v9 (broadcastInDim S1x1x16 ![2] bcast_S16_S1x1x16_2 : (⟨S16, .i32⟩ : BufTy).Contents (Elt F) → (⟨S1x1x16, .i32⟩ : BufTy).Contents (Elt F)),
    unary main_v9 main_v10 (broadcastInDim S8192x2x16 ![0, 1, 2] bcast_S1x1x16_S8192x2x16_0_1_2 : (⟨S1x1x16, .i32⟩ : BufTy).Contents (Elt F) → (⟨S8192x2x16, .i32⟩ : BufTy).Contents (Elt F)),
    binary main_v5 main_v10 main_v11 (muli : (⟨S8192x2x16, .i32⟩ : BufTy).Contents (Elt F) → (⟨S8192x2x16, .i32⟩ : BufTy).Contents (Elt F) → (⟨S8192x2x16, .i32⟩ : BufTy).Contents (Elt F)),
    nullary main_c_0 (constantI S_ 32 0#32),
    binary main_v11 main_c_0 main_v12 ((fun x v => Host.reduce IntOp.addi x v reducesTo_S8192x2x16_S8192x2_d2 h_S_) : (⟨S8192x2x16, .i32⟩ : BufTy).Contents (Elt F) → (⟨S_, .i32⟩ : BufTy).Contents (Elt F) → (⟨S8192x2, .i32⟩ : BufTy).Contents (Elt F)),
    nullary main_v13 (iotaInDim S2 32 0),
    unary main_v13 main_v14 (broadcastInDim S1x2 ![1] bcast_S2_S1x2_1 : (⟨S2, .i32⟩ : BufTy).Contents (Elt F) → (⟨S1x2, .i32⟩ : BufTy).Contents (Elt F)),
    unary main_v14 main_v15 (broadcastInDim S8192x2 ![0, 1] bcast_S1x2_S8192x2_0_1 : (⟨S1x2, .i32⟩ : BufTy).Contents (Elt F) → (⟨S8192x2, .i32⟩ : BufTy).Contents (Elt F)) ]

/-- What these operations write. -/
abbrev hashW : List (Ref sig .tc) := [main_v0, main_v1, main_v2, main_cst, main_v3, main_v4, main_v5, main_v6, main_c, main_v7, main_v8, main_v9, main_v10, main_v11, main_c_0, main_v12, main_v13, main_v14, main_v15]

/-- The keys, values, gates and write tags. -/
abbrev gateOps : List (HloOp τ sig (Elt F)) :=
  [ binary main_v0 main_arg2 main_v16 ((fun l r => Host.dotGeneral dot_S8192x1024_S1024x32_S8192x32_1_0_0_1_n_n none l r) : (⟨S8192x1024, .f32⟩ : BufTy).Contents (Elt F) → (⟨S1024x32, .f32⟩ : BufTy).Contents (Elt F) → (⟨S8192x32, .f32⟩ : BufTy).Contents (Elt F)),
    binary main_v0 main_arg3 main_v17 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    binary main_v0 main_arg5 main_v18 ((fun l r => Host.dotGeneral dot_S8192x1024_S1024x1_S8192x1_1_0_0_1_n_n none l r) : (⟨S8192x1024, .f32⟩ : BufTy).Contents (Elt F) → (⟨S1024x1, .f32⟩ : BufTy).Contents (Elt F) → (⟨S8192x1, .f32⟩ : BufTy).Contents (Elt F)),
    unary main_arg6 main_v19 (broadcastInDim S1x1 ![1] bcast_S1_S1x1_1 : (⟨S1, .f32⟩ : BufTy).Contents (Elt F) → (⟨S1x1, .f32⟩ : BufTy).Contents (Elt F)),
    unary main_v19 main_v20 (broadcastInDim S8192x1 ![0, 1] bcast_S1x1_S8192x1_0_1 : (⟨S1x1, .f32⟩ : BufTy).Contents (Elt F) → (⟨S8192x1, .f32⟩ : BufTy).Contents (Elt F)),
    binary main_v18 main_v20 main_v21 (addf : (⟨S8192x1, .f32⟩ : BufTy).Contents (Elt F) → (⟨S8192x1, .f32⟩ : BufTy).Contents (Elt F) → (⟨S8192x1, .f32⟩ : BufTy).Contents (Elt F)),
    unary main_v21 main_v22 (Host.negf : (⟨S8192x1, .f32⟩ : BufTy).Contents (Elt F) → (⟨S8192x1, .f32⟩ : BufTy).Contents (Elt F)),
    unary main_v22 main_v23 (Host.exp : (⟨S8192x1, .f32⟩ : BufTy).Contents (Elt F) → (⟨S8192x1, .f32⟩ : BufTy).Contents (Elt F)),
    nullary main_cst_1 (constant S_ .f32 0x3F800000#32),
    unary main_cst_1 main_v24 (broadcastInDim S8192x1 ![] bcast_S_S8192x1 : (⟨S_, .f32⟩ : BufTy).Contents (Elt F) → (⟨S8192x1, .f32⟩ : BufTy).Contents (Elt F)),
    binary main_v24 main_v23 main_v25 (addf : (⟨S8192x1, .f32⟩ : BufTy).Contents (Elt F) → (⟨S8192x1, .f32⟩ : BufTy).Contents (Elt F) → (⟨S8192x1, .f32⟩ : BufTy).Contents (Elt F)),
    nullary main_cst_2 (constant S_ .f32 0x3F800000#32),
    unary main_cst_2 main_v26 (broadcastInDim S8192x1 ![] bcast_S_S8192x1 : (⟨S_, .f32⟩ : BufTy).Contents (Elt F) → (⟨S8192x1, .f32⟩ : BufTy).Contents (Elt F)),
    binary main_v26 main_v25 main_v27 (Host.divf : (⟨S8192x1, .f32⟩ : BufTy).Contents (Elt F) → (⟨S8192x1, .f32⟩ : BufTy).Contents (Elt F) → (⟨S8192x1, .f32⟩ : BufTy).Contents (Elt F)),
    nullary main_cst_3 (constant S_ .f32 0x3F000000#32),
    unary main_cst_3 main_v28 (broadcastInDim S8192x1 ![] bcast_S_S8192x1 : (⟨S_, .f32⟩ : BufTy).Contents (Elt F) → (⟨S8192x1, .f32⟩ : BufTy).Contents (Elt F)),
    binary main_v27 main_v28 main_v29 (cmpf .ogt : (⟨S8192x1, .f32⟩ : BufTy).Contents (Elt F) → (⟨S8192x1, .f32⟩ : BufTy).Contents (Elt F) → (⟨S8192x1, .i1⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S8192x1, .f32⟩) main_call0_v1) (broadcastInDim S8192x1 ![] bcast_S_S8192x1),
    TRef.ternary (TRef.of (T := ⟨S8192x1, .i1⟩) main_v29) (TRef.of (T := ⟨S8192x1, .f32⟩) main_v27) (TRef.of (T := ⟨S8192x1, .f32⟩) main_call0_v1) (TRef.of (T := ⟨S8192x1, .f32⟩) main_v30) select,
    nullary main_cst_5 (constant S_ .f32 0x3DCCCCCD#32),
    unary main_cst_5 main_v31 (broadcastInDim S8192x1 ![] bcast_S_S8192x1 : (⟨S_, .f32⟩ : BufTy).Contents (Elt F) → (⟨S8192x1, .f32⟩ : BufTy).Contents (Elt F)),
    binary main_v31 main_v30 main_v32 (mulf : (⟨S8192x1, .f32⟩ : BufTy).Contents (Elt F) → (⟨S8192x1, .f32⟩ : BufTy).Contents (Elt F) → (⟨S8192x1, .f32⟩ : BufTy).Contents (Elt F)),
    unary main_v32 main_v33 (broadcastInDim S8192x1x1 ![0, 1] bcast_S8192x1_S8192x1x1_0_1 : (⟨S8192x1, .f32⟩ : BufTy).Contents (Elt F) → (⟨S8192x1x1, .f32⟩ : BufTy).Contents (Elt F)),
    binary main_v16 main_arg7 main_v34 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    unary main_v34 main_v35 (Host.tanh : (⟨S8192x32, .f32⟩ : BufTy).Contents (Elt F) → (⟨S8192x32, .f32⟩ : BufTy).Contents (Elt F)) ]

/-- What these operations write. -/
abbrev gateW : List (Ref sig .tc) := [main_v16, main_v17, main_v18, main_v19, main_v20, main_v21, main_v22, main_v23, main_cst_1, main_v24, main_v25, main_cst_2, main_v26, main_v27, main_cst_3, main_v28, main_v29, main_cst_4, main_call0_v0, main_call0_v1, main_v30, main_cst_5, main_v31, main_v32, main_v33, main_v34, main_v35]

/-- The matched slot of every bucket. -/
abbrev slotOps : List (HloOp τ sig (Elt F)) :=
  [ unary main_v15 main_v36 (broadcastInDim S8192x2x1 ![0, 1] bcast_S8192x2_S8192x2x1_0_1 : (⟨S8192x2, .i32⟩ : BufTy).Contents (Elt F) → (⟨S8192x2x1, .i32⟩ : BufTy).Contents (Elt F)),
    unary main_v12 main_v37 (broadcastInDim S8192x2x1 ![0, 1] bcast_S8192x2_S8192x2x1_0_1 : (⟨S8192x2, .i32⟩ : BufTy).Contents (Elt F) → (⟨S8192x2x1, .i32⟩ : BufTy).Contents (Elt F)),
    binary main_v36 main_v37 main_v38 (cat2 (F := F)),
    binary main_arg9 main_v38 main_v39 ((fun x i => Host.gather gather_S2x65536x2x32_S8192x2x2_S8192x2x2x32_23_01_n_n_01_2_11232 x i) : (⟨S2x65536x2x32, .f32⟩ : BufTy).Contents (Elt F) → (⟨S8192x2x2, .i32⟩ : BufTy).Contents (Elt F) → (⟨S8192x2x2x32, .f32⟩ : BufTy).Contents (Elt F)),
    binary main_v39 main_v16 main_v40 ((fun l r => Host.dotGeneral dot_S8192x2x2x32_S8192x32_S8192x2x2_3_1_12_n_0_0 none l r) : (⟨S8192x2x2x32, .f32⟩ : BufTy).Contents (Elt F) → (⟨S8192x32, .f32⟩ : BufTy).Contents (Elt F) → (⟨S8192x2x2, .f32⟩ : BufTy).Contents (Elt F)),
    nullary main_cst_6 (constant S_ .f32 0x42000000#32),
    unary main_cst_6 main_v41 (Host.sqrt : (⟨S_, .f32⟩ : BufTy).Contents (Elt F) → (⟨S_, .f32⟩ : BufTy).Contents (Elt F)),
    unary main_v41 main_v42 (broadcastInDim S8192x2x2 ![] bcast_S_S8192x2x2 : (⟨S_, .f32⟩ : BufTy).Contents (Elt F) → (⟨S8192x2x2, .f32⟩ : BufTy).Contents (Elt F)),
    binary main_v40 main_v42 main_v43 (Host.divf : (⟨S8192x2x2, .f32⟩ : BufTy).Contents (Elt F) → (⟨S8192x2x2, .f32⟩ : BufTy).Contents (Elt F) → (⟨S8192x2x2, .f32⟩ : BufTy).Contents (Elt F)),
    TRef.nullary (TRef.of (T := ⟨S8192x2x2, .i32⟩) main_call1_v0) (iotaInDim S8192x2x2 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S8192x2x2, .f32⟩) main_v43) (TRef.of (T := ⟨S8192x2x2, .i32⟩) main_call1_v0) (TRef.of (T := ⟨S_, .f32⟩) main_call1_cst) (TRef.of (T := ⟨S_, .i32⟩) main_call1_c) (TRef.of (T := ⟨S8192x2, .f32⟩) main_call1_v1_0) (fun x y u v j => (Host.argReduce reducer_argmax_f32_i32 x y u v reducesTo_S8192x2x2_S8192x2_d2 h_S_ j).1),
    TRef.quaternary (TRef.of (T := ⟨S8192x2x2, .f32⟩) main_v43) (TRef.of (T := ⟨S8192x2x2, .i32⟩) main_call1_v0) (TRef.of (T := ⟨S_, .f32⟩) main_call1_cst) (TRef.of (T := ⟨S_, .i32⟩) main_call1_c) (TRef.of (T := ⟨S8192x2, .i32⟩) main_v44) argmax1 ]

/-- What these operations write. -/
abbrev slotW : List (Ref sig .tc) := [main_v36, main_v37, main_v38, main_v39, main_v40, main_cst_6, main_v41, main_v42, main_v43, main_call1_v0, main_call1_cst, main_call1_c, main_call1_v1_0, main_v44]

/-- The words that name the keys' rows. -/
abbrev keysAOps : List (HloOp τ sig (Elt F)) :=
  [ unary main_v16 main_v45 (broadcastInDim S8192x1x32 ![0, 2] bcast_S8192x32_S8192x1x32_0_2 : (⟨S8192x32, .f32⟩ : BufTy).Contents (Elt F) → (⟨S8192x1x32, .f32⟩ : BufTy).Contents (Elt F)),
    unary main_v15 main_v46 (broadcastInDim S8192x2x1 ![0, 1] bcast_S8192x2_S8192x2x1_0_1 : (⟨S8192x2, .i32⟩ : BufTy).Contents (Elt F) → (⟨S8192x2x1, .i32⟩ : BufTy).Contents (Elt F)),
    unary main_v12 main_v47 (broadcastInDim S8192x2x1 ![0, 1] bcast_S8192x2_S8192x2x1_0_1 : (⟨S8192x2, .i32⟩ : BufTy).Contents (Elt F) → (⟨S8192x2x1, .i32⟩ : BufTy).Contents (Elt F)),
    unary main_v44 main_v48 (broadcastInDim S8192x2x1 ![0, 1] bcast_S8192x2_S8192x2x1_0_1 : (⟨S8192x2, .i32⟩ : BufTy).Contents (Elt F) → (⟨S8192x2x1, .i32⟩ : BufTy).Contents (Elt F)) ]

/-- What these operations write. -/
abbrev keysAW : List (Ref sig .tc) := [main_v45, main_v46, main_v47, main_v48]

/-- The keys read there. -/
abbrev keysBOps : List (HloOp τ sig (Elt F)) :=
  [ nary ![main_v46, main_v47, main_v48] main_v49 (fun u => cat3 (F := F) (u 0) (u 1) (u 2)),
    binary main_arg9 main_v49 main_v50 ((fun x i => Host.gather gather_S2x65536x2x32_S8192x2x3_S8192x2x32_2_012_n_n_012_2_11132 x i) : (⟨S2x65536x2x32, .f32⟩ : BufTy).Contents (Elt F) → (⟨S8192x2x3, .i32⟩ : BufTy).Contents (Elt F) → (⟨S8192x2x32, .f32⟩ : BufTy).Contents (Elt F)) ]

/-- What these operations write. -/
abbrev keysBW : List (Ref sig .tc) := [main_v49, main_v50]

/-- What is added to the keys, and the words that say where. -/
abbrev keysCOps : List (HloOp τ sig (Elt F)) :=
  [ unary main_v45 main_v51 (broadcastInDim S8192x2x32 ![0, 1, 2] bcast_S8192x1x32_S8192x2x32_0_1_2 : (⟨S8192x1x32, .f32⟩ : BufTy).Contents (Elt F) → (⟨S8192x2x32, .f32⟩ : BufTy).Contents (Elt F)),
    binary main_v51 main_v50 main_v52 (subf : (⟨S8192x2x32, .f32⟩ : BufTy).Contents (Elt F) → (⟨S8192x2x32, .f32⟩ : BufTy).Contents (Elt F) → (⟨S8192x2x32, .f32⟩ : BufTy).Contents (Elt F)),
    unary main_v33 main_v53 (broadcastInDim S8192x2x32 ![0, 1, 2] bcast_S8192x1x1_S8192x2x32_0_1_2 : (⟨S8192x1x1, .f32⟩ : BufTy).Contents (Elt F) → (⟨S8192x2x32, .f32⟩ : BufTy).Contents (Elt F)),
    binary main_v53 main_v52 main_v54 (mulf : (⟨S8192x2x32, .f32⟩ : BufTy).Contents (Elt F) → (⟨S8192x2x32, .f32⟩ : BufTy).Contents (Elt F) → (⟨S8192x2x32, .f32⟩ : BufTy).Contents (Elt F)),
    unary main_v15 main_v55 (broadcastInDim S8192x2x1 ![0, 1] bcast_S8192x2_S8192x2x1_0_1 : (⟨S8192x2, .i32⟩ : BufTy).Contents (Elt F) → (⟨S8192x2x1, .i32⟩ : BufTy).Contents (Elt F)),
    unary main_v12 main_v56 (broadcastInDim S8192x2x1 ![0, 1] bcast_S8192x2_S8192x2x1_0_1 : (⟨S8192x2, .i32⟩ : BufTy).Contents (Elt F) → (⟨S8192x2x1, .i32⟩ : BufTy).Contents (Elt F)),
    unary main_v44 main_v57 (broadcastInDim S8192x2x1 ![0, 1] bcast_S8192x2_S8192x2x1_0_1 : (⟨S8192x2, .i32⟩ : BufTy).Contents (Elt F) → (⟨S8192x2x1, .i32⟩ : BufTy).Contents (Elt F)) ]

/-- What these operations write. -/
abbrev keysCW : List (Ref sig .tc) := [main_v51, main_v52, main_v53, main_v54, main_v55, main_v56, main_v57]

/-- The updated keys. -/
abbrev keysDOps : List (HloOp τ sig (Elt F)) :=
  [ nary ![main_v55, main_v56, main_v57] main_v58 (fun u => cat3 (F := F) (u 0) (u 1) (u 2)),
    ternary main_arg9 main_v58 main_v54 main_v59 ((fun x i u => Host.scatterAdd scatter_S2x65536x2x32_S8192x2x3_S8192x2x32_2_012_012_2 x i u) : (⟨S2x65536x2x32, .f32⟩ : BufTy).Contents (Elt F) → (⟨S8192x2x3, .i32⟩ : BufTy).Contents (Elt F) → (⟨S8192x2x32, .f32⟩ : BufTy).Contents (Elt F) → (⟨S2x65536x2x32, .f32⟩ : BufTy).Contents (Elt F)) ]

/-- What these operations write. -/
abbrev keysDW : List (Ref sig .tc) := [main_v58, main_v59]

/-- The words that name the values' rows. -/
abbrev valsAOps : List (HloOp τ sig (Elt F)) :=
  [ unary main_v17 main_v60 (broadcastInDim S8192x1x64 ![0, 2] bcast_S8192x64_S8192x1x64_0_2 : (⟨S8192x64, .f32⟩ : BufTy).Contents (Elt F) → (⟨S8192x1x64, .f32⟩ : BufTy).Contents (Elt F)),
    unary main_v15 main_v61 (broadcastInDim S8192x2x1 ![0, 1] bcast_S8192x2_S8192x2x1_0_1 : (⟨S8192x2, .i32⟩ : BufTy).Contents (Elt F) → (⟨S8192x2x1, .i32⟩ : BufTy).Contents (Elt F)),
    unary main_v12 main_v62 (broadcastInDim S8192x2x1 ![0, 1] bcast_S8192x2_S8192x2x1_0_1 : (⟨S8192x2, .i32⟩ : BufTy).Contents (Elt F) → (⟨S8192x2x1, .i32⟩ : BufTy).Contents (Elt F)),
    unary main_v44 main_v63 (broadcastInDim S8192x2x1 ![0, 1] bcast_S8192x2_S8192x2x1_0_1 : (⟨S8192x2, .i32⟩ : BufTy).Contents (Elt F) → (⟨S8192x2x1, .i32⟩ : BufTy).Contents (Elt F)) ]

/-- What these operations write. -/
abbrev valsAW : List (Ref sig .tc) := [main_v60, main_v61, main_v62, main_v63]

/-- What is added to the values, and the words that say where. -/
abbrev valsBOps : List (HloOp τ sig (Elt F)) :=
  [ nary ![main_v61, main_v62, main_v63] main_v64 (fun u => cat3 (F := F) (u 0) (u 1) (u 2)),
    binary main_arg10 main_v64 main_v65 ((fun x i => Host.gather gather_S2x65536x2x64_S8192x2x3_S8192x2x64_2_012_n_n_012_2_11164 x i) : (⟨S2x65536x2x64, .f32⟩ : BufTy).Contents (Elt F) → (⟨S8192x2x3, .i32⟩ : BufTy).Contents (Elt F) → (⟨S8192x2x64, .f32⟩ : BufTy).Contents (Elt F)),
    unary main_v60 main_v66 (broadcastInDim S8192x2x64 ![0, 1, 2] bcast_S8192x1x64_S8192x2x64_0_1_2 : (⟨S8192x1x64, .f32⟩ : BufTy).Contents (Elt F) → (⟨S8192x2x64, .f32⟩ : BufTy).Contents (Elt F)),
    binary main_v66 main_v65 main_v67 (subf : (⟨S8192x2x64, .f32⟩ : BufTy).Contents (Elt F) → (⟨S8192x2x64, .f32⟩ : BufTy).Contents (Elt F) → (⟨S8192x2x64, .f32⟩ : BufTy).Contents (Elt F)),
    unary main_v33 main_v68 (broadcastInDim S8192x2x64 ![0, 1, 2] bcast_S8192x1x1_S8192x2x64_0_1_2 : (⟨S8192x1x1, .f32⟩ : BufTy).Contents (Elt F) → (⟨S8192x2x64, .f32⟩ : BufTy).Contents (Elt F)),
    binary main_v68 main_v67 main_v69 (mulf : (⟨S8192x2x64, .f32⟩ : BufTy).Contents (Elt F) → (⟨S8192x2x64, .f32⟩ : BufTy).Contents (Elt F) → (⟨S8192x2x64, .f32⟩ : BufTy).Contents (Elt F)),
    unary main_v15 main_v70 (broadcastInDim S8192x2x1 ![0, 1] bcast_S8192x2_S8192x2x1_0_1 : (⟨S8192x2, .i32⟩ : BufTy).Contents (Elt F) → (⟨S8192x2x1, .i32⟩ : BufTy).Contents (Elt F)),
    unary main_v12 main_v71 (broadcastInDim S8192x2x1 ![0, 1] bcast_S8192x2_S8192x2x1_0_1 : (⟨S8192x2, .i32⟩ : BufTy).Contents (Elt F) → (⟨S8192x2x1, .i32⟩ : BufTy).Contents (Elt F)),
    unary main_v44 main_v72 (broadcastInDim S8192x2x1 ![0, 1] bcast_S8192x2_S8192x2x1_0_1 : (⟨S8192x2, .i32⟩ : BufTy).Contents (Elt F) → (⟨S8192x2x1, .i32⟩ : BufTy).Contents (Elt F)) ]

/-- What these operations write. -/
abbrev valsBW : List (Ref sig .tc) := [main_v64, main_v65, main_v66, main_v67, main_v68, main_v69, main_v70, main_v71, main_v72]

/-- The updated values. -/
abbrev valsCOps : List (HloOp τ sig (Elt F)) :=
  [ nary ![main_v70, main_v71, main_v72] main_v73 (fun u => cat3 (F := F) (u 0) (u 1) (u 2)),
    ternary main_arg10 main_v73 main_v69 main_v74 ((fun x i u => Host.scatterAdd scatter_S2x65536x2x64_S8192x2x3_S8192x2x64_2_012_012_2 x i u) : (⟨S2x65536x2x64, .f32⟩ : BufTy).Contents (Elt F) → (⟨S8192x2x3, .i32⟩ : BufTy).Contents (Elt F) → (⟨S8192x2x64, .f32⟩ : BufTy).Contents (Elt F) → (⟨S2x65536x2x64, .f32⟩ : BufTy).Contents (Elt F)) ]

/-- What these operations write. -/
abbrev valsCW : List (Ref sig .tc) := [main_v73, main_v74]

/-- The words that name the tags' rows. -/
abbrev tagsAOps : List (HloOp τ sig (Elt F)) :=
  [ unary main_v35 main_v75 (broadcastInDim S8192x1x32 ![0, 2] bcast_S8192x32_S8192x1x32_0_2 : (⟨S8192x32, .f32⟩ : BufTy).Contents (Elt F) → (⟨S8192x1x32, .f32⟩ : BufTy).Contents (Elt F)),
    unary main_v15 main_v76 (broadcastInDim S8192x2x1 ![0, 1] bcast_S8192x2_S8192x2x1_0_1 : (⟨S8192x2, .i32⟩ : BufTy).Contents (Elt F) → (⟨S8192x2x1, .i32⟩ : BufTy).Contents (Elt F)),
    unary main_v12 main_v77 (broadcastInDim S8192x2x1 ![0, 1] bcast_S8192x2_S8192x2x1_0_1 : (⟨S8192x2, .i32⟩ : BufTy).Contents (Elt F) → (⟨S8192x2x1, .i32⟩ : BufTy).Contents (Elt F)),
    unary main_v44 main_v78 (broadcastInDim S8192x2x1 ![0, 1] bcast_S8192x2_S8192x2x1_0_1 : (⟨S8192x2, .i32⟩ : BufTy).Contents (Elt F) → (⟨S8192x2x1, .i32⟩ : BufTy).Contents (Elt F)) ]

/-- What these operations write. -/
abbrev tagsAW : List (Ref sig .tc) := [main_v75, main_v76, main_v77, main_v78]

/-- What is added to the tags, and the words that say where. -/
abbrev tagsBOps : List (HloOp τ sig (Elt F)) :=
  [ nary ![main_v76, main_v77, main_v78] main_v79 (fun u => cat3 (F := F) (u 0) (u 1) (u 2)),
    binary main_arg11 main_v79 main_v80 ((fun x i => Host.gather gather_S2x65536x2x32_S8192x2x3_S8192x2x32_2_012_n_n_012_2_11132 x i) : (⟨S2x65536x2x32, .f32⟩ : BufTy).Contents (Elt F) → (⟨S8192x2x3, .i32⟩ : BufTy).Contents (Elt F) → (⟨S8192x2x32, .f32⟩ : BufTy).Contents (Elt F)),
    unary main_v75 main_v81 (broadcastInDim S8192x2x32 ![0, 1, 2] bcast_S8192x1x32_S8192x2x32_0_1_2 : (⟨S8192x1x32, .f32⟩ : BufTy).Contents (Elt F) → (⟨S8192x2x32, .f32⟩ : BufTy).Contents (Elt F)),
    binary main_v81 main_v80 main_v82 (subf : (⟨S8192x2x32, .f32⟩ : BufTy).Contents (Elt F) → (⟨S8192x2x32, .f32⟩ : BufTy).Contents (Elt F) → (⟨S8192x2x32, .f32⟩ : BufTy).Contents (Elt F)),
    unary main_v33 main_v83 (broadcastInDim S8192x2x32 ![0, 1, 2] bcast_S8192x1x1_S8192x2x32_0_1_2 : (⟨S8192x1x1, .f32⟩ : BufTy).Contents (Elt F) → (⟨S8192x2x32, .f32⟩ : BufTy).Contents (Elt F)),
    binary main_v83 main_v82 main_v84 (mulf : (⟨S8192x2x32, .f32⟩ : BufTy).Contents (Elt F) → (⟨S8192x2x32, .f32⟩ : BufTy).Contents (Elt F) → (⟨S8192x2x32, .f32⟩ : BufTy).Contents (Elt F)),
    unary main_v15 main_v85 (broadcastInDim S8192x2x1 ![0, 1] bcast_S8192x2_S8192x2x1_0_1 : (⟨S8192x2, .i32⟩ : BufTy).Contents (Elt F) → (⟨S8192x2x1, .i32⟩ : BufTy).Contents (Elt F)),
    unary main_v12 main_v86 (broadcastInDim S8192x2x1 ![0, 1] bcast_S8192x2_S8192x2x1_0_1 : (⟨S8192x2, .i32⟩ : BufTy).Contents (Elt F) → (⟨S8192x2x1, .i32⟩ : BufTy).Contents (Elt F)),
    unary main_v44 main_v87 (broadcastInDim S8192x2x1 ![0, 1] bcast_S8192x2_S8192x2x1_0_1 : (⟨S8192x2, .i32⟩ : BufTy).Contents (Elt F) → (⟨S8192x2x1, .i32⟩ : BufTy).Contents (Elt F)) ]

/-- What these operations write. -/
abbrev tagsBW : List (Ref sig .tc) := [main_v79, main_v80, main_v81, main_v82, main_v83, main_v84, main_v85, main_v86, main_v87]

/-- The updated tags. -/
abbrev tagsCOps : List (HloOp τ sig (Elt F)) :=
  [ nary ![main_v85, main_v86, main_v87] main_v88 (fun u => cat3 (F := F) (u 0) (u 1) (u 2)),
    ternary main_arg11 main_v88 main_v84 main_v89 ((fun x i u => Host.scatterAdd scatter_S2x65536x2x32_S8192x2x3_S8192x2x32_2_012_012_2 x i u) : (⟨S2x65536x2x32, .f32⟩ : BufTy).Contents (Elt F) → (⟨S8192x2x3, .i32⟩ : BufTy).Contents (Elt F) → (⟨S8192x2x32, .f32⟩ : BufTy).Contents (Elt F) → (⟨S2x65536x2x32, .f32⟩ : BufTy).Contents (Elt F)) ]

/-- What these operations write. -/
abbrev tagsCW : List (Ref sig .tc) := [main_v88, main_v89]

/-- The logits. -/
abbrev logitsOps : List (HloOp τ sig (Elt F)) :=
  [ binary main_v1 main_arg7 main_v90 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    unary main_v90 main_v91 (Host.tanh : (⟨S8192x32, .f32⟩ : BufTy).Contents (Elt F) → (⟨S8192x32, .f32⟩ : BufTy).Contents (Elt F)),
    unary main_v15 main_v92 (broadcastInDim S8192x2x1 ![0, 1] bcast_S8192x2_S8192x2x1_0_1 : (⟨S8192x2, .i32⟩ : BufTy).Contents (Elt F) → (⟨S8192x2x1, .i32⟩ : BufTy).Contents (Elt F)),
    unary main_v12 main_v93 (broadcastInDim S8192x2x1 ![0, 1] bcast_S8192x2_S8192x2x1_0_1 : (⟨S8192x2, .i32⟩ : BufTy).Contents (Elt F) → (⟨S8192x2x1, .i32⟩ : BufTy).Contents (Elt F)),
    binary main_v92 main_v93 main_v94 (cat2 (F := F)),
    binary main_v59 main_v94 main_v95 ((fun x i => Host.gather gather_S2x65536x2x32_S8192x2x2_S8192x2x2x32_23_01_n_n_01_2_11232 x i) : (⟨S2x65536x2x32, .f32⟩ : BufTy).Contents (Elt F) → (⟨S8192x2x2, .i32⟩ : BufTy).Contents (Elt F) → (⟨S8192x2x2x32, .f32⟩ : BufTy).Contents (Elt F)),
    binary main_v95 main_v1 main_v96 ((fun l r => Host.dotGeneral dot_S8192x2x2x32_S8192x32_S8192x2x2_3_1_12_n_0_0 none l r) : (⟨S8192x2x2x32, .f32⟩ : BufTy).Contents (Elt F) → (⟨S8192x32, .f32⟩ : BufTy).Contents (Elt F) → (⟨S8192x2x2, .f32⟩ : BufTy).Contents (Elt F)),
    nullary main_cst_7 (constant S_ .f32 0x42000000#32),
    unary main_cst_7 main_v97 (Host.sqrt : (⟨S_, .f32⟩ : BufTy).Contents (Elt F) → (⟨S_, .f32⟩ : BufTy).Contents (Elt F)),
    unary main_v97 main_v98 (broadcastInDim S8192x2x2 ![] bcast_S_S8192x2x2 : (⟨S_, .f32⟩ : BufTy).Contents (Elt F) → (⟨S8192x2x2, .f32⟩ : BufTy).Contents (Elt F)),
    binary main_v96 main_v98 main_v99 (Host.divf : (⟨S8192x2x2, .f32⟩ : BufTy).Contents (Elt F) → (⟨S8192x2x2, .f32⟩ : BufTy).Contents (Elt F) → (⟨S8192x2x2, .f32⟩ : BufTy).Contents (Elt F)),
    unary main_v15 main_v100 (broadcastInDim S8192x2x1 ![0, 1] bcast_S8192x2_S8192x2x1_0_1 : (⟨S8192x2, .i32⟩ : BufTy).Contents (Elt F) → (⟨S8192x2x1, .i32⟩ : BufTy).Contents (Elt F)),
    unary main_v12 main_v101 (broadcastInDim S8192x2x1 ![0, 1] bcast_S8192x2_S8192x2x1_0_1 : (⟨S8192x2, .i32⟩ : BufTy).Contents (Elt F) → (⟨S8192x2x1, .i32⟩ : BufTy).Contents (Elt F)),
    binary main_v100 main_v101 main_v102 (cat2 (F := F)),
    binary main_v89 main_v102 main_v103 ((fun x i => Host.gather gather_S2x65536x2x32_S8192x2x2_S8192x2x2x32_23_01_n_n_01_2_11232 x i) : (⟨S2x65536x2x32, .f32⟩ : BufTy).Contents (Elt F) → (⟨S8192x2x2, .i32⟩ : BufTy).Contents (Elt F) → (⟨S8192x2x2x32, .f32⟩ : BufTy).Contents (Elt F)),
    binary main_v103 main_v91 main_v104 ((fun l r => Host.dotGeneral dot_S8192x2x2x32_S8192x32_S8192x2x2_3_1_12_n_0_0 none l r) : (⟨S8192x2x2x32, .f32⟩ : BufTy).Contents (Elt F) → (⟨S8192x32, .f32⟩ : BufTy).Contents (Elt F) → (⟨S8192x2x2, .f32⟩ : BufTy).Contents (Elt F)),
    nullary main_cst_8 (constant S_ .f32 0x3F800000#32),
    unary main_cst_8 main_v105 (broadcastInDim S8192x2x2 ![] bcast_S_S8192x2x2 : (⟨S_, .f32⟩ : BufTy).Contents (Elt F) → (⟨S8192x2x2, .f32⟩ : BufTy).Contents (Elt F)),
    binary main_v105 main_v104 main_v106 (mulf : (⟨S8192x2x2, .f32⟩ : BufTy).Contents (Elt F) → (⟨S8192x2x2, .f32⟩ : BufTy).Contents (Elt F) → (⟨S8192x2x2, .f32⟩ : BufTy).Contents (Elt F)),
    binary main_v99 main_v106 main_v107 (addf : (⟨S8192x2x2, .f32⟩ : BufTy).Contents (Elt F) → (⟨S8192x2x2, .f32⟩ : BufTy).Contents (Elt F) → (⟨S8192x2x2, .f32⟩ : BufTy).Contents (Elt F)),
    reshape main_v107 main_v108 (rfl : (.f32 : EltTy) = .f32) shapeCasts_S8192x2x2_S8192x4 ]

/-- What these operations write. -/
abbrev logitsW : List (Ref sig .tc) := [main_v90, main_v91, main_v92, main_v93, main_v94, main_v95, main_v96, main_cst_7, main_v97, main_v98, main_v99, main_v100, main_v101, main_v102, main_v103, main_v104, main_cst_8, main_v105, main_v106, main_v107, main_v108]

/-- The softmax, the read and the output. -/
abbrev outOps : List (HloOp τ sig (Elt F)) :=
  [ nullary main_cst_9 (constant S_ .f32 0xFF800000#32),
    binary main_v108 main_cst_9 main_v109 ((fun x v => Host.reduce FloatOps.maximumf x v reducesTo_S8192x4_S8192_d1 h_S_) : (⟨S8192x4, .f32⟩ : BufTy).Contents (Elt F) → (⟨S_, .f32⟩ : BufTy).Contents (Elt F) → (⟨S8192, .f32⟩ : BufTy).Contents (Elt F)),
    nullary main_cst_10 (constant S_ .f32 0xFF800000#32),
    unary main_cst_10 main_v110 (broadcastInDim S8192 ![] bcast_S_S8192 : (⟨S_, .f32⟩ : BufTy).Contents (Elt F) → (⟨S8192, .f32⟩ : BufTy).Contents (Elt F)),
    binary main_v110 main_v109 main_v111 (maximumf : (⟨S8192, .f32⟩ : BufTy).Contents (Elt F) → (⟨S8192, .f32⟩ : BufTy).Contents (Elt F) → (⟨S8192, .f32⟩ : BufTy).Contents (Elt F)),
    unary main_v111 main_v112 (broadcastInDim S8192x1 ![0] bcast_S8192_S8192x1_0 : (⟨S8192, .f32⟩ : BufTy).Contents (Elt F) → (⟨S8192x1, .f32⟩ : BufTy).Contents (Elt F)),
    unary main_v112 main_v113 (broadcastInDim S8192x4 ![0, 1] bcast_S8192x1_S8192x4_0_1 : (⟨S8192x1, .f32⟩ : BufTy).Contents (Elt F) → (⟨S8192x4, .f32⟩ : BufTy).Contents (Elt F)),
    binary main_v108 main_v113 main_v114 (subf : (⟨S8192x4, .f32⟩ : BufTy).Contents (Elt F) → (⟨S8192x4, .f32⟩ : BufTy).Contents (Elt F) → (⟨S8192x4, .f32⟩ : BufTy).Contents (Elt F)),
    unary main_v114 main_v115 (Host.exp : (⟨S8192x4, .f32⟩ : BufTy).Contents (Elt F) → (⟨S8192x4, .f32⟩ : BufTy).Contents (Elt F)),
    nullary main_cst_11 (constant S_ .f32 0x00000000#32),
    binary main_v115 main_cst_11 main_v116 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F)),
    unary main_v116 main_v117 (broadcastInDim S8192x1 ![0] bcast_S8192_S8192x1_0 : (⟨S8192, .f32⟩ : BufTy).Contents (Elt F) → (⟨S8192x1, .f32⟩ : BufTy).Contents (Elt F)),
    unary main_v117 main_v118 (broadcastInDim S8192x4 ![0, 1] bcast_S8192x1_S8192x4_0_1 : (⟨S8192x1, .f32⟩ : BufTy).Contents (Elt F) → (⟨S8192x4, .f32⟩ : BufTy).Contents (Elt F)),
    binary main_v115 main_v118 main_v119 (Host.divf : (⟨S8192x4, .f32⟩ : BufTy).Contents (Elt F) → (⟨S8192x4, .f32⟩ : BufTy).Contents (Elt F) → (⟨S8192x4, .f32⟩ : BufTy).Contents (Elt F)),
    reshape main_v119 main_v120 (rfl : (.f32 : EltTy) = .f32) shapeCasts_S8192x4_S8192x2x2,
    unary main_v15 main_v121 (broadcastInDim S8192x2x1 ![0, 1] bcast_S8192x2_S8192x2x1_0_1 : (⟨S8192x2, .i32⟩ : BufTy).Contents (Elt F) → (⟨S8192x2x1, .i32⟩ : BufTy).Contents (Elt F)),
    unary main_v12 main_v122 (broadcastInDim S8192x2x1 ![0, 1] bcast_S8192x2_S8192x2x1_0_1 : (⟨S8192x2, .i32⟩ : BufTy).Contents (Elt F) → (⟨S8192x2x1, .i32⟩ : BufTy).Contents (Elt F)),
    binary main_v121 main_v122 main_v123 (cat2 (F := F)),
    binary main_v74 main_v123 main_v124 ((fun x i => Host.gather gather_S2x65536x2x64_S8192x2x2_S8192x2x2x64_23_01_n_n_01_2_11264 x i) : (⟨S2x65536x2x64, .f32⟩ : BufTy).Contents (Elt F) → (⟨S8192x2x2, .i32⟩ : BufTy).Contents (Elt F) → (⟨S8192x2x2x64, .f32⟩ : BufTy).Contents (Elt F)),
    binary main_v120 main_v124 main_v125 ((fun l r => Host.dotGeneral dot_S8192x2x2_S8192x2x2x64_S8192x64_21_21_n_3_0_0 none l r) : (⟨S8192x2x2, .f32⟩ : BufTy).Contents (Elt F) → (⟨S8192x2x2x64, .f32⟩ : BufTy).Contents (Elt F) → (⟨S8192x64, .f32⟩ : BufTy).Contents (Elt F)),
    binary main_v125 main_arg4 main_v126 ((fun l r => Host.dotGeneral dot_S8192x64_S64x1024_S8192x1024_1_0_0_1_n_n none l r) : (⟨S8192x64, .f32⟩ : BufTy).Contents (Elt F) → (⟨S64x1024, .f32⟩ : BufTy).Contents (Elt F) → (⟨S8192x1024, .f32⟩ : BufTy).Contents (Elt F)),
    reshape main_v126 main_v127 (rfl : (.f32 : EltTy) = .f32) shapeCasts_S8192x1024_S2x4096x1024 ]

/-- What these operations write. -/
abbrev outW : List (Ref sig .tc) := [main_cst_9, main_v109, main_cst_10, main_v110, main_v111, main_v112, main_v113, main_v114, main_v115, main_cst_11, main_v116, main_v117, main_v118, main_v119, main_v120, main_v121, main_v122, main_v123, main_v124, main_v125, main_v126, main_v127]

/-- Part 0 of the program's operations. -/
def part0Ops : List (HloOp τ sig (Elt F)) :=
  hashOps ++ (gateOps ++ (slotOps ++ (keysAOps ++ (keysBOps))))

/-- Part 1 of the program's operations. -/
def part1Ops : List (HloOp τ sig (Elt F)) :=
  keysCOps ++ (keysDOps ++ (valsAOps ++ (valsBOps ++ (valsCOps ++ (tagsAOps ++ (tagsBOps ++ (tagsCOps ++ (logitsOps))))))))

/-- Part 2 of the program's operations. -/
def part2Ops : List (HloOp τ sig (Elt F)) :=
  outOps

/-- The program's operations, in order. -/
abbrev ops : List (HloOp τ sig (Elt F)) := part0Ops ++ (part1Ops ++ part2Ops)

set_option maxRecDepth 131072 in
set_option maxHeartbeats 4000000 in
theorem part0_eq (c : Dev nD) : main_part0 (F := F) c = seq part0Ops := rfl

theorem part1_eq (c : Dev nD) : main_part1 (F := F) c = seq part1Ops := rfl

theorem part2_eq (c : Dev nD) : main_part2 (F := F) c = seq part2Ops := rfl

/-- The program is its operations in order. -/
theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide

theorem scopedSems_eq : (Finset.univ.filter fun sm : SemLoc sig => sm.isScoped .tc) = ∅ := by decide

theorem hash_sub : (hashOps : List (HloOp τ sig (Elt F))).Forall fun op => op.bufs ⊆ tcRefs τ sig :=
  ⟨reshape_bufs_sub .., binary_bufs_sub .., binary_bufs_sub .., nullary_bufs_sub .., unary_bufs_sub .., binary_bufs_sub .., unary_bufs_sub .., nullary_bufs_sub .., nullary_bufs_sub .., unary_bufs_sub .., binary_bufs_sub .., unary_bufs_sub .., unary_bufs_sub .., binary_bufs_sub .., nullary_bufs_sub .., binary_bufs_sub .., nullary_bufs_sub .., unary_bufs_sub .., unary_bufs_sub ..⟩

theorem hash_fresh : (hashOps : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem hash_writes : (hashOps : List (HloOp τ sig (Elt F))).Forall fun op =>
    op.writes ⊆ (hashW.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem hash_of (b : Valuation τ sig (Elt F)) (r : Ref sig .tc) (h : r ∉ hashW) :
    after hashOps b (Proc.devRef .tc r) = b (Proc.devRef .tc r) :=
  after_of_writes_sub hashOps _ hash_writes h

theorem gate_sub : (gateOps : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., binary_bufs_sub .., unary_bufs_sub ..⟩

theorem gate_fresh : (gateOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

theorem gate_writes : (gateOps : List (HloOp τ sig (Elt F))).Forall fun op =>
    op.writes ⊆ (gateW.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem gate_of (b : Valuation τ sig (Elt F)) (r : Ref sig .tc) (h : r ∉ gateW) :
    after gateOps b (Proc.devRef .tc r) = b (Proc.devRef .tc r) :=
  after_of_writes_sub gateOps _ gate_writes h

theorem slot_sub : (slotOps : List (HloOp τ sig (Elt F))).Forall fun op => op.bufs ⊆ tcRefs τ sig :=
  ⟨unary_bufs_sub .., unary_bufs_sub .., binary_bufs_sub .., binary_bufs_sub .., binary_bufs_sub .., nullary_bufs_sub .., unary_bufs_sub .., unary_bufs_sub .., binary_bufs_sub .., nullary_bufs_sub .., nullary_bufs_sub .., nullary_bufs_sub .., quaternary_bufs_sub .., quaternary_bufs_sub ..⟩

theorem slot_fresh : (slotOps : List (HloOp τ sig (Elt F))).Forall fun op => op.fresh = ∅ :=
  ⟨rfl, rfl, rfl, rfl, rfl, rfl, rfl, rfl, rfl, rfl, rfl, rfl, rfl, rfl⟩

theorem slot_writes : (slotOps : List (HloOp τ sig (Elt F))).Forall fun op =>
    op.writes ⊆ (slotW.map (Proc.devRef (τ := τ) .tc)).toFinset := by
  simp only [List.Forall]
  refine ⟨?_, ?_, ?_, ?_, ?_, ?_, ?_, ?_, ?_, ?_, ?_, ?_, ?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem slot_of (b : Valuation τ sig (Elt F)) (r : Ref sig .tc) (h : r ∉ slotW) :
    after slotOps b (Proc.devRef .tc r) = b (Proc.devRef .tc r) :=
  after_of_writes_sub slotOps _ slot_writes h

theorem keysA_sub : (keysAOps : List (HloOp τ sig (Elt F))).Forall fun op => op.bufs ⊆ tcRefs τ sig :=
  ⟨unary_bufs_sub .., unary_bufs_sub .., unary_bufs_sub .., unary_bufs_sub ..⟩

theorem keysA_fresh : (keysAOps : List (HloOp τ sig (Elt F))).Forall fun op => op.fresh = ∅ :=
  ⟨rfl, rfl, rfl, rfl⟩

theorem keysA_writes : (keysAOps : List (HloOp τ sig (Elt F))).Forall fun op =>
    op.writes ⊆ (keysAW.map (Proc.devRef (τ := τ) .tc)).toFinset := by
  simp only [List.Forall]
  refine ⟨?_, ?_, ?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem keysA_of (b : Valuation τ sig (Elt F)) (r : Ref sig .tc) (h : r ∉ keysAW) :
    after keysAOps b (Proc.devRef .tc r) = b (Proc.devRef .tc r) :=
  after_of_writes_sub keysAOps _ keysA_writes h

theorem keysB_sub : (keysBOps : List (HloOp τ sig (Elt F))).Forall fun op => op.bufs ⊆ tcRefs τ sig :=
  ⟨nary_bufs_sub .., binary_bufs_sub ..⟩

theorem keysB_fresh : (keysBOps : List (HloOp τ sig (Elt F))).Forall fun op => op.fresh = ∅ :=
  ⟨rfl, rfl⟩

theorem keysB_writes : (keysBOps : List (HloOp τ sig (Elt F))).Forall fun op =>
    op.writes ⊆ (keysBW.map (Proc.devRef (τ := τ) .tc)).toFinset := by
  simp only [List.Forall]
  refine ⟨?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem keysB_of (b : Valuation τ sig (Elt F)) (r : Ref sig .tc) (h : r ∉ keysBW) :
    after keysBOps b (Proc.devRef .tc r) = b (Proc.devRef .tc r) :=
  after_of_writes_sub keysBOps _ keysB_writes h

theorem keysC_sub : (keysCOps : List (HloOp τ sig (Elt F))).Forall fun op => op.bufs ⊆ tcRefs τ sig :=
  ⟨unary_bufs_sub .., binary_bufs_sub .., unary_bufs_sub .., binary_bufs_sub .., unary_bufs_sub .., unary_bufs_sub .., unary_bufs_sub ..⟩

theorem keysC_fresh : (keysCOps : List (HloOp τ sig (Elt F))).Forall fun op => op.fresh = ∅ :=
  ⟨rfl, rfl, rfl, rfl, rfl, rfl, rfl⟩

theorem keysC_writes : (keysCOps : List (HloOp τ sig (Elt F))).Forall fun op =>
    op.writes ⊆ (keysCW.map (Proc.devRef (τ := τ) .tc)).toFinset := by
  simp only [List.Forall]
  refine ⟨?_, ?_, ?_, ?_, ?_, ?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem keysC_of (b : Valuation τ sig (Elt F)) (r : Ref sig .tc) (h : r ∉ keysCW) :
    after keysCOps b (Proc.devRef .tc r) = b (Proc.devRef .tc r) :=
  after_of_writes_sub keysCOps _ keysC_writes h

theorem keysD_sub : (keysDOps : List (HloOp τ sig (Elt F))).Forall fun op => op.bufs ⊆ tcRefs τ sig :=
  ⟨nary_bufs_sub .., ternary_bufs_sub ..⟩

theorem keysD_fresh : (keysDOps : List (HloOp τ sig (Elt F))).Forall fun op => op.fresh = ∅ :=
  ⟨rfl, rfl⟩

theorem keysD_writes : (keysDOps : List (HloOp τ sig (Elt F))).Forall fun op =>
    op.writes ⊆ (keysDW.map (Proc.devRef (τ := τ) .tc)).toFinset := by
  simp only [List.Forall]
  refine ⟨?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem keysD_of (b : Valuation τ sig (Elt F)) (r : Ref sig .tc) (h : r ∉ keysDW) :
    after keysDOps b (Proc.devRef .tc r) = b (Proc.devRef .tc r) :=
  after_of_writes_sub keysDOps _ keysD_writes h

theorem valsA_sub : (valsAOps : List (HloOp τ sig (Elt F))).Forall fun op => op.bufs ⊆ tcRefs τ sig :=
  ⟨unary_bufs_sub .., unary_bufs_sub .., unary_bufs_sub .., unary_bufs_sub ..⟩

theorem valsA_fresh : (valsAOps : List (HloOp τ sig (Elt F))).Forall fun op => op.fresh = ∅ :=
  ⟨rfl, rfl, rfl, rfl⟩

theorem valsA_writes : (valsAOps : List (HloOp τ sig (Elt F))).Forall fun op =>
    op.writes ⊆ (valsAW.map (Proc.devRef (τ := τ) .tc)).toFinset := by
  simp only [List.Forall]
  refine ⟨?_, ?_, ?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem valsA_of (b : Valuation τ sig (Elt F)) (r : Ref sig .tc) (h : r ∉ valsAW) :
    after valsAOps b (Proc.devRef .tc r) = b (Proc.devRef .tc r) :=
  after_of_writes_sub valsAOps _ valsA_writes h

theorem valsB_sub : (valsBOps : List (HloOp τ sig (Elt F))).Forall fun op => op.bufs ⊆ tcRefs τ sig :=
  ⟨nary_bufs_sub .., binary_bufs_sub .., unary_bufs_sub .., binary_bufs_sub .., unary_bufs_sub .., binary_bufs_sub .., unary_bufs_sub .., unary_bufs_sub .., unary_bufs_sub ..⟩

theorem valsB_fresh : (valsBOps : List (HloOp τ sig (Elt F))).Forall fun op => op.fresh = ∅ :=
  ⟨rfl, rfl, rfl, rfl, rfl, rfl, rfl, rfl, rfl⟩

theorem valsB_writes : (valsBOps : List (HloOp τ sig (Elt F))).Forall fun op =>
    op.writes ⊆ (valsBW.map (Proc.devRef (τ := τ) .tc)).toFinset := by
  simp only [List.Forall]
  refine ⟨?_, ?_, ?_, ?_, ?_, ?_, ?_, ?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem valsB_of (b : Valuation τ sig (Elt F)) (r : Ref sig .tc) (h : r ∉ valsBW) :
    after valsBOps b (Proc.devRef .tc r) = b (Proc.devRef .tc r) :=
  after_of_writes_sub valsBOps _ valsB_writes h

theorem valsC_sub : (valsCOps : List (HloOp τ sig (Elt F))).Forall fun op => op.bufs ⊆ tcRefs τ sig :=
  ⟨nary_bufs_sub .., ternary_bufs_sub ..⟩

theorem valsC_fresh : (valsCOps : List (HloOp τ sig (Elt F))).Forall fun op => op.fresh = ∅ :=
  ⟨rfl, rfl⟩

theorem valsC_writes : (valsCOps : List (HloOp τ sig (Elt F))).Forall fun op =>
    op.writes ⊆ (valsCW.map (Proc.devRef (τ := τ) .tc)).toFinset := by
  simp only [List.Forall]
  refine ⟨?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem valsC_of (b : Valuation τ sig (Elt F)) (r : Ref sig .tc) (h : r ∉ valsCW) :
    after valsCOps b (Proc.devRef .tc r) = b (Proc.devRef .tc r) :=
  after_of_writes_sub valsCOps _ valsC_writes h

theorem tagsA_sub : (tagsAOps : List (HloOp τ sig (Elt F))).Forall fun op => op.bufs ⊆ tcRefs τ sig :=
  ⟨unary_bufs_sub .., unary_bufs_sub .., unary_bufs_sub .., unary_bufs_sub ..⟩

theorem tagsA_fresh : (tagsAOps : List (HloOp τ sig (Elt F))).Forall fun op => op.fresh = ∅ :=
  ⟨rfl, rfl, rfl, rfl⟩

theorem tagsA_writes : (tagsAOps : List (HloOp τ sig (Elt F))).Forall fun op =>
    op.writes ⊆ (tagsAW.map (Proc.devRef (τ := τ) .tc)).toFinset := by
  simp only [List.Forall]
  refine ⟨?_, ?_, ?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem tagsA_of (b : Valuation τ sig (Elt F)) (r : Ref sig .tc) (h : r ∉ tagsAW) :
    after tagsAOps b (Proc.devRef .tc r) = b (Proc.devRef .tc r) :=
  after_of_writes_sub tagsAOps _ tagsA_writes h

theorem tagsB_sub : (tagsBOps : List (HloOp τ sig (Elt F))).Forall fun op => op.bufs ⊆ tcRefs τ sig :=
  ⟨nary_bufs_sub .., binary_bufs_sub .., unary_bufs_sub .., binary_bufs_sub .., unary_bufs_sub .., binary_bufs_sub .., unary_bufs_sub .., unary_bufs_sub .., unary_bufs_sub ..⟩

theorem tagsB_fresh : (tagsBOps : List (HloOp τ sig (Elt F))).Forall fun op => op.fresh = ∅ :=
  ⟨rfl, rfl, rfl, rfl, rfl, rfl, rfl, rfl, rfl⟩

theorem tagsB_writes : (tagsBOps : List (HloOp τ sig (Elt F))).Forall fun op =>
    op.writes ⊆ (tagsBW.map (Proc.devRef (τ := τ) .tc)).toFinset := by
  simp only [List.Forall]
  refine ⟨?_, ?_, ?_, ?_, ?_, ?_, ?_, ?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem tagsB_of (b : Valuation τ sig (Elt F)) (r : Ref sig .tc) (h : r ∉ tagsBW) :
    after tagsBOps b (Proc.devRef .tc r) = b (Proc.devRef .tc r) :=
  after_of_writes_sub tagsBOps _ tagsB_writes h

theorem tagsC_sub : (tagsCOps : List (HloOp τ sig (Elt F))).Forall fun op => op.bufs ⊆ tcRefs τ sig :=
  ⟨nary_bufs_sub .., ternary_bufs_sub ..⟩

theorem tagsC_fresh : (tagsCOps : List (HloOp τ sig (Elt F))).Forall fun op => op.fresh = ∅ :=
  ⟨rfl, rfl⟩

theorem tagsC_writes : (tagsCOps : List (HloOp τ sig (Elt F))).Forall fun op =>
    op.writes ⊆ (tagsCW.map (Proc.devRef (τ := τ) .tc)).toFinset := by
  simp only [List.Forall]
  refine ⟨?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem tagsC_of (b : Valuation τ sig (Elt F)) (r : Ref sig .tc) (h : r ∉ tagsCW) :
    after tagsCOps b (Proc.devRef .tc r) = b (Proc.devRef .tc r) :=
  after_of_writes_sub tagsCOps _ tagsC_writes h

theorem logits_sub : (logitsOps : List (HloOp τ sig (Elt F))).Forall fun op => op.bufs ⊆ tcRefs τ sig :=
  ⟨binary_bufs_sub .., unary_bufs_sub .., unary_bufs_sub .., unary_bufs_sub .., binary_bufs_sub .., binary_bufs_sub .., binary_bufs_sub .., nullary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., binary_bufs_sub .., reshape_bufs_sub ..⟩

theorem logits_fresh : (logitsOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem logits_writes : (logitsOps : List (HloOp τ sig (Elt F))).Forall fun op =>
    op.writes ⊆ (logitsW.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem logits_of (b : Valuation τ sig (Elt F)) (r : Ref sig .tc) (h : r ∉ logitsW) :
    after logitsOps b (Proc.devRef .tc r) = b (Proc.devRef .tc r) :=
  after_of_writes_sub logitsOps _ logits_writes h

theorem out_sub : (outOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., unary_bufs_sub .., unary_bufs_sub .., binary_bufs_sub .., binary_bufs_sub .., binary_bufs_sub .., binary_bufs_sub .., reshape_bufs_sub ..⟩

theorem out_fresh : (outOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem out_writes : (outOps : List (HloOp τ sig (Elt F))).Forall fun op =>
    op.writes ⊆ (outW.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, nary_writes,
      Finset.singleton_subset_iff, List.mem_toFinset]
    exact List.mem_map_of_mem (by decide)

/-- A buffer these operations do not write keeps its contents. -/
theorem out_of (b : Valuation τ sig (Elt F)) (r : Ref sig .tc) (h : r ∉ outW) :
    after outOps b (Proc.devRef .tc r) = b (Proc.devRef .tc r) :=
  after_of_writes_sub outOps _ out_writes h

/-- What holds of every operation of each stretch holds of every operation. -/
theorem forall_ops {p : HloOp τ sig (Elt F) → Prop} (h0 : (hashOps : List (HloOp τ sig (Elt F))).Forall p) (h1 : (gateOps : List (HloOp τ sig (Elt F))).Forall p) (h2 : (slotOps : List (HloOp τ sig (Elt F))).Forall p) (h3 : (keysAOps : List (HloOp τ sig (Elt F))).Forall p) (h4 : (keysBOps : List (HloOp τ sig (Elt F))).Forall p) (h5 : (keysCOps : List (HloOp τ sig (Elt F))).Forall p) (h6 : (keysDOps : List (HloOp τ sig (Elt F))).Forall p) (h7 : (valsAOps : List (HloOp τ sig (Elt F))).Forall p) (h8 : (valsBOps : List (HloOp τ sig (Elt F))).Forall p) (h9 : (valsCOps : List (HloOp τ sig (Elt F))).Forall p) (h10 : (tagsAOps : List (HloOp τ sig (Elt F))).Forall p) (h11 : (tagsBOps : List (HloOp τ sig (Elt F))).Forall p) (h12 : (tagsCOps : List (HloOp τ sig (Elt F))).Forall p) (h13 : (logitsOps : List (HloOp τ sig (Elt F))).Forall p) (h14 : (outOps : List (HloOp τ sig (Elt F))).Forall p) :
    ∀ op ∈ (ops : List (HloOp τ sig (Elt F))), p op := fun op h => by
  simp only [ops, part0Ops, part1Ops, part2Ops, List.mem_append, or_assoc] at h
  rcases h with h | h | h | h | h | h | h | h | h | h | h | h | h | h | h
  exacts [List.forall_iff_forall_mem.mp h0 op h, List.forall_iff_forall_mem.mp h1 op h, List.forall_iff_forall_mem.mp h2 op h, List.forall_iff_forall_mem.mp h3 op h, List.forall_iff_forall_mem.mp h4 op h, List.forall_iff_forall_mem.mp h5 op h, List.forall_iff_forall_mem.mp h6 op h, List.forall_iff_forall_mem.mp h7 op h, List.forall_iff_forall_mem.mp h8 op h, List.forall_iff_forall_mem.mp h9 op h, List.forall_iff_forall_mem.mp h10 op h, List.forall_iff_forall_mem.mp h11 op h, List.forall_iff_forall_mem.mp h12 op h, List.forall_iff_forall_mem.mp h13 op h, List.forall_iff_forall_mem.mp h14 op h]

/-- The contents after each stretch, from the contents `b` the program starts with. -/
abbrev U0 (b : Valuation τ sig (Elt F)) : Valuation τ sig (Elt F) := b
def U1 (b : Valuation τ sig (Elt F)) : Valuation τ sig (Elt F) := after hashOps (U0 b)
def U2 (b : Valuation τ sig (Elt F)) : Valuation τ sig (Elt F) := after gateOps (U1 b)
def U3 (b : Valuation τ sig (Elt F)) : Valuation τ sig (Elt F) := after slotOps (U2 b)
def U4 (b : Valuation τ sig (Elt F)) : Valuation τ sig (Elt F) := after keysAOps (U3 b)
def U5 (b : Valuation τ sig (Elt F)) : Valuation τ sig (Elt F) := after keysBOps (U4 b)
def U6 (b : Valuation τ sig (Elt F)) : Valuation τ sig (Elt F) := after keysCOps (U5 b)
def U7 (b : Valuation τ sig (Elt F)) : Valuation τ sig (Elt F) := after keysDOps (U6 b)
def U8 (b : Valuation τ sig (Elt F)) : Valuation τ sig (Elt F) := after valsAOps (U7 b)
def U9 (b : Valuation τ sig (Elt F)) : Valuation τ sig (Elt F) := after valsBOps (U8 b)
def U10 (b : Valuation τ sig (Elt F)) : Valuation τ sig (Elt F) := after valsCOps (U9 b)
def U11 (b : Valuation τ sig (Elt F)) : Valuation τ sig (Elt F) := after tagsAOps (U10 b)
def U12 (b : Valuation τ sig (Elt F)) : Valuation τ sig (Elt F) := after tagsBOps (U11 b)
def U13 (b : Valuation τ sig (Elt F)) : Valuation τ sig (Elt F) := after tagsCOps (U12 b)
def U14 (b : Valuation τ sig (Elt F)) : Valuation τ sig (Elt F) := after logitsOps (U13 b)
def U15 (b : Valuation τ sig (Elt F)) : Valuation τ sig (Elt F) := after outOps (U14 b)

theorem after_ops (b : Valuation τ sig (Elt F)) : after ops b = U15 b := by
  simp only [ops, part0Ops, part1Ops, part2Ops, after_append]
  rfl

/-- Every run of the program ends with every buffer at its contents after the last stretch. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = U15 (launchContents m c) (Proc.devRef .tc b) :=
  (θ_run defs _ _).mono (fun _ h c b => (h c b).trans (congrFun (after_ops (launchContents m c)) (Proc.devRef .tc b)))
    (run_seq scopedRefs_eq scopedSems_eq defs main (fun _ => ops) main_eq
      (fun _ => List.forall_iff_forall_mem.mpr (forall_ops hash_sub gate_sub slot_sub keysA_sub keysB_sub keysC_sub keysD_sub valsA_sub valsB_sub valsC_sub tagsA_sub tagsB_sub tagsC_sub logits_sub out_sub)) m ρ
      fun _ => forall_ops hash_fresh gate_fresh slot_fresh keysA_fresh keysB_fresh keysC_fresh keysD_fresh valsA_fresh valsB_fresh valsC_fresh tagsA_fresh tagsB_fresh tagsC_fresh logits_fresh out_fresh)

end Cert.ReferenceIdeal.Hand

end
-- ==== Proof.RefReads.lean ====
module

public import proofs.«01_k».proof.Proof.RefRun
public import proofs.«01_k».proof.Proof.Spec
public import proofs.«01_k».proof.Proof.Consts
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Idealize.ShloMosaic.StableHlo

variable (b : Valuation τ sig (Elt Ideal))

/-- The arguments' elements, read off the buffers that hold them. -/
def inOf : Spec.In where
  x n c := (b (Proc.devRef .tc main_arg0) : FVec Ideal S2x4096x1024 .f32) (ix3 ⟨n.val / 4096, by omega⟩ ⟨n.val % 4096, by omega⟩ c)
  wq c k := (b (Proc.devRef .tc main_arg1) : FVec Ideal S1024x32 .f32) (ix2 c k)
  wk c k := (b (Proc.devRef .tc main_arg2) : FVec Ideal S1024x32 .f32) (ix2 c k)
  wv c k := (b (Proc.devRef .tc main_arg3) : FVec Ideal S1024x64 .f32) (ix2 c k)
  wo v j := (b (Proc.devRef .tc main_arg4) : FVec Ideal S64x1024 .f32) (ix2 v j)
  wg c := (b (Proc.devRef .tc main_arg5) : FVec Ideal S1024x1 .f32) (ix2 c 0)
  bg := (b (Proc.devRef .tc main_arg6) : FVec Ideal S1 .f32) (ix1 0)
  wt j k := (b (Proc.devRef .tc main_arg7) : FVec Ideal S32x32 .f32) (ix2 j k)
  rb h k t := (b (Proc.devRef .tc main_arg8) : FVec Ideal S2x32x16 .f32) (ix3 h k t)
  K h i a k := (b (Proc.devRef .tc main_arg9) : FVec Ideal S2x65536x2x32 .f32) (ix4 h i a k)
  V h i a k := (b (Proc.devRef .tc main_arg10) : FVec Ideal S2x65536x2x64 .f32) (ix4 h i a k)
  T h i a k := (b (Proc.devRef .tc main_arg11) : FVec Ideal S2x65536x2x32 .f32) (ix4 h i a k)

/-- An argument's buffer keeps its contents. -/
theorem kept0 (r : Ref sig .tc) (h : r ∉ hashW ++ (gateW ++ (slotW ++ (keysAW ++ (keysBW ++ (keysCW ++ (keysDW ++ (valsAW ++ (valsBW ++ (valsCW ++ (tagsAW ++ (tagsBW ++ (tagsCW ++ (logitsW ++ outW)))))))))))))) :
    ∀ u ∈ [U1 b, U2 b, U3 b, U4 b, U5 b, U6 b, U7 b, U8 b, U9 b, U10 b, U11 b, U12 b, U13 b, U14 b, U15 b], u (Proc.devRef .tc r) = b (Proc.devRef .tc r) := by
  simp only [List.mem_append, not_or] at h
  obtain ⟨h1, h2, h3, h4, h5, h6, h7, h8, h9, h10, h11, h12, h13, h14, h15⟩ := h
  have e1 : U1 b (Proc.devRef .tc r) = _ := hash_of b r h1
  have e2 : U2 b (Proc.devRef .tc r) = _ := gate_of (U1 b) r h2
  have e3 : U3 b (Proc.devRef .tc r) = _ := slot_of (U2 b) r h3
  have e4 : U4 b (Proc.devRef .tc r) = _ := keysA_of (U3 b) r h4
  have e5 : U5 b (Proc.devRef .tc r) = _ := keysB_of (U4 b) r h5
  have e6 : U6 b (Proc.devRef .tc r) = _ := keysC_of (U5 b) r h6
  have e7 : U7 b (Proc.devRef .tc r) = _ := keysD_of (U6 b) r h7
  have e8 : U8 b (Proc.devRef .tc r) = _ := valsA_of (U7 b) r h8
  have e9 : U9 b (Proc.devRef .tc r) = _ := valsB_of (U8 b) r h9
  have e10 : U10 b (Proc.devRef .tc r) = _ := valsC_of (U9 b) r h10
  have e11 : U11 b (Proc.devRef .tc r) = _ := tagsA_of (U10 b) r h11
  have e12 : U12 b (Proc.devRef .tc r) = _ := tagsB_of (U11 b) r h12
  have e13 : U13 b (Proc.devRef .tc r) = _ := tagsC_of (U12 b) r h13
  have e14 : U14 b (Proc.devRef .tc r) = _ := logits_of (U13 b) r h14
  have e15 : U15 b (Proc.devRef .tc r) = _ := out_of (U14 b) r h15
  simp only [List.mem_cons, List.not_mem_nil, or_false, forall_eq_or_imp, forall_eq, e1, e2, e3, e4, e5, e6, e7, e8, e9, e10, e11, e12, e13, e14, e15, true_and, and_true]

/-- What the first stretch leaves, later stretches keep. -/
theorem kept1 (r : Ref sig .tc) (h : r ∉ gateW ++ (slotW ++ (keysAW ++ (keysBW ++ (keysCW ++ (keysDW ++ (valsAW ++ (valsBW ++ (valsCW ++ (tagsAW ++ (tagsBW ++ (tagsCW ++ logitsW)))))))))))) :
    ∀ u ∈ [U2 b, U3 b, U4 b, U5 b, U6 b, U7 b, U8 b, U9 b, U10 b, U11 b, U12 b, U13 b, U14 b], u (Proc.devRef .tc r) = U1 b (Proc.devRef .tc r) := by
  simp only [List.mem_append, not_or] at h
  obtain ⟨h2, h3, h4, h5, h6, h7, h8, h9, h10, h11, h12, h13, h14⟩ := h
  have e2 : U2 b (Proc.devRef .tc r) = _ := gate_of (U1 b) r h2
  have e3 : U3 b (Proc.devRef .tc r) = _ := slot_of (U2 b) r h3
  have e4 : U4 b (Proc.devRef .tc r) = _ := keysA_of (U3 b) r h4
  have e5 : U5 b (Proc.devRef .tc r) = _ := keysB_of (U4 b) r h5
  have e6 : U6 b (Proc.devRef .tc r) = _ := keysC_of (U5 b) r h6
  have e7 : U7 b (Proc.devRef .tc r) = _ := keysD_of (U6 b) r h7
  have e8 : U8 b (Proc.devRef .tc r) = _ := valsA_of (U7 b) r h8
  have e9 : U9 b (Proc.devRef .tc r) = _ := valsB_of (U8 b) r h9
  have e10 : U10 b (Proc.devRef .tc r) = _ := valsC_of (U9 b) r h10
  have e11 : U11 b (Proc.devRef .tc r) = _ := tagsA_of (U10 b) r h11
  have e12 : U12 b (Proc.devRef .tc r) = _ := tagsB_of (U11 b) r h12
  have e13 : U13 b (Proc.devRef .tc r) = _ := tagsC_of (U12 b) r h13
  have e14 : U14 b (Proc.devRef .tc r) = _ := logits_of (U13 b) r h14
  simp only [List.mem_cons, List.not_mem_nil, or_false, forall_eq_or_imp, forall_eq, e2, e3, e4, e5, e6, e7, e8, e9, e10, e11, e12, e13, e14, true_and, and_true]

/-- The words that name rows, the write keys, values and tags, and the slots, once there, are kept. -/
theorem kept3 (r : Ref sig .tc) (h : r ∉ keysAW ++ (keysBW ++ (keysCW ++ (keysDW ++ (valsAW ++ (valsBW ++ (valsCW ++ (tagsAW ++ (tagsBW ++ tagsCW))))))))) :
    ∀ u ∈ [U4 b, U5 b, U6 b, U7 b, U8 b, U9 b, U10 b, U11 b, U12 b, U13 b], u (Proc.devRef .tc r) = U3 b (Proc.devRef .tc r) := by
  simp only [List.mem_append, not_or] at h
  obtain ⟨h4, h5, h6, h7, h8, h9, h10, h11, h12, h13⟩ := h
  have e4 : U4 b (Proc.devRef .tc r) = _ := keysA_of (U3 b) r h4
  have e5 : U5 b (Proc.devRef .tc r) = _ := keysB_of (U4 b) r h5
  have e6 : U6 b (Proc.devRef .tc r) = _ := keysC_of (U5 b) r h6
  have e7 : U7 b (Proc.devRef .tc r) = _ := keysD_of (U6 b) r h7
  have e8 : U8 b (Proc.devRef .tc r) = _ := valsA_of (U7 b) r h8
  have e9 : U9 b (Proc.devRef .tc r) = _ := valsB_of (U8 b) r h9
  have e10 : U10 b (Proc.devRef .tc r) = _ := valsC_of (U9 b) r h10
  have e11 : U11 b (Proc.devRef .tc r) = _ := tagsA_of (U10 b) r h11
  have e12 : U12 b (Proc.devRef .tc r) = _ := tagsB_of (U11 b) r h12
  have e13 : U13 b (Proc.devRef .tc r) = _ := tagsC_of (U12 b) r h13
  simp only [List.mem_cons, List.not_mem_nil, or_false, forall_eq_or_imp, forall_eq, e4, e5, e6, e7, e8, e9, e10, e11, e12, e13, true_and, and_true]

/-- The tokens. -/
theorem v0_at (n : Fin 8192) (c : Fin 1024) : ((U1 b (Proc.devRef .tc main_v0) : FVec Ideal S8192x1024 .f32) (ix2 n c) : EReal) = (inOf b).x n c := by
  unfold U1; after_reads_at
  rfl

/-- The tags. -/
theorem v1_at (n : Fin 8192) (k : Fin 32) : ((U1 b (Proc.devRef .tc main_v1) : FVec Ideal S8192x32 .f32) (ix2 n k) : EReal) = Spec.tag (inOf b) n k := by
  unfold U1; after_reads_at
  rfl

/-- A sign bit's word is its power of two. -/
theorem bit_word (p : Bool) (t : Fin 16) : IntOp.muli (BitVec.setWidth 32 (BitVec.ofBool p)) (IntOp.shli ArithUnit.host 1#32 (BitVec.ofNat 32 t.val))
    = BitVec.ofNat 32 (if p then 2 ^ t.val else 0) := by
  revert p t; decide

/-- The buckets. -/
theorem v12_at (n : Fin 8192) (h : Fin 2) : (U1 b (Proc.devRef .tc main_v12) : IVec S8192x2 32) (ix2 n h) = BitVec.ofNat 32 (Spec.bk (inOf b) n h).val := by
  unfold U1; after_reads_at
  rw [Spec.fold_addi _ _ _ fun t => bit_word _ t]
  simp only [decide_eq_true_eq]
  rfl

/-- The hashes. -/
theorem v15_at (n : Fin 8192) (h : Fin 2) : (U1 b (Proc.devRef .tc main_v15) : IVec S8192x2 32) (ix2 n h) = BitVec.ofNat 32 h.val := by
  unfold U1; after_reads_at

/-- The write keys. -/
theorem v16_at (n : Fin 8192) (k : Fin 32) : ((U2 b (Proc.devRef .tc main_v16) : FVec Ideal S8192x32 .f32) (ix2 n k) : EReal) = Spec.wkey (inOf b) n k := by
  unfold U2; after_reads_at
  simp only [kept0 b main_arg2 (by decide) (U1 b) (by simp)]
  exact Finset.sum_congr rfl fun c _ => congrArg (· * _) (v0_at b n c)

/-- The values. -/
theorem v17_at (n : Fin 8192) (k : Fin 64) : ((U2 b (Proc.devRef .tc main_v17) : FVec Ideal S8192x64 .f32) (ix2 n k) : EReal) = Spec.val (inOf b) n k := by
  unfold U2; after_reads_at
  simp only [kept0 b main_arg3 (by decide) (U1 b) (by simp)]
  exact Finset.sum_congr rfl fun c _ => congrArg (· * _) (v0_at b n c)

/-- The gate's steps. -/
theorem v33_at (n : Fin 8192) (p q : Fin 1) : ((U2 b (Proc.devRef .tc main_v33) : FVec Ideal S8192x1x1 .f32) (ix3 n p q) : EReal) = Spec.gE (inOf b) n := by
  unfold U2; after_reads_at
  simp only [kept0 b main_arg5 (by decide) (U1 b) (by simp), kept0 b main_arg6 (by decide) (U1 b) (by simp)]
  have e : (∑ x : Fin 1024, HMul.hMul (α := EReal) (β := EReal) ((U1 b (Proc.devRef .tc main_v0) : FVec Ideal S8192x1024 .f32) (ix2 n x)) ((b (Proc.devRef .tc main_arg5) : FVec Ideal S1024x1 .f32) (ix2 x 0)) : EReal)
      = ∑ c, (inOf b).x n c * (inOf b).wg c := Finset.sum_congr rfl fun c _ => congrArg (· * _) (v0_at b n c)
  have z : (id (constant (F := Ideal) S_ .f32 0#32) ix0 : EReal) = 0 := by unfold id; pointwise
  rw [z]
  show Ideal.ofBits FTy.f32 1036831949#32 * ite (Ideal.ofBits FTy.f32 1056964608#32 < Ideal.logistic (_ + _)) (Ideal.logistic (_ + _)) 0 = _
  rw [e]
  rfl

/-- The write tags. -/
theorem v35_at (n : Fin 8192) (k : Fin 32) : ((U2 b (Proc.devRef .tc main_v35) : FVec Ideal S8192x32 .f32) (ix2 n k) : EReal) = Spec.wtag (inOf b) n k := by
  unfold U2; after_reads_at
  simp only [kept0 b main_arg2 (by decide) (U1 b) (by simp), kept0 b main_arg7 (by decide) (U1 b) (by simp)]
  refine congrArg Ideal.tanh (Finset.sum_congr rfl fun j _ => congrArg (· * _) ?_)
  exact Finset.sum_congr rfl fun c _ => congrArg (· * _) (v0_at b n c)

end Cert.ReferenceIdeal.Hand

end
-- ==== Proof.GS.lean ====
module

public import proofs.«01_k».proof.Proof.RefRun
public import Idealize.ShloMosaic.Lib.Pipeline.ValueKit
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen

/-- The memory's shape, rows of `W`. -/
abbrev SM (W : Nat) : Shape := ⟨4, ![2, 65536, 2, W]⟩
/-- The shape of one row of `W` for every token and hash. -/
abbrev SR (W : Nat) : Shape := ⟨3, ![8192, 2, W]⟩
/-- The shape of both rows of `W` for every token and hash. -/
abbrev SS (W : Nat) : Shape := ⟨4, ![8192, 2, 2, W]⟩

/-- Reading one row of the memory at a hash, a bucket and a slot. -/
abbrev gd3 (W : Nat) (wf : GatherDims.WF (SM W) S8192x2x3 (SR W) [2] [0, 1, 2] [] [0, 1, 2] [] 2 ![1, 1, 1, W]) : GatherDims (SM W) S8192x2x3 (SR W) where
  offsetDims := [2]
  collapsedSliceDims := [0, 1, 2]
  operandBatchingDims := []
  startIndicesBatchingDims := []
  startIndexMap := [0, 1, 2]
  indexVectorDim := 2
  sliceSizes := ![1, 1, 1, W]
  wf := wf

/-- Reading both rows of the memory at a hash and a bucket. -/
abbrev gd2 (W : Nat) (wf : GatherDims.WF (SM W) S8192x2x2 (SS W) [2, 3] [0, 1] [] [0, 1] [] 2 ![1, 1, 2, W]) : GatherDims (SM W) S8192x2x2 (SS W) where
  offsetDims := [2, 3]
  collapsedSliceDims := [0, 1]
  operandBatchingDims := []
  startIndicesBatchingDims := []
  startIndexMap := [0, 1]
  indexVectorDim := 2
  sliceSizes := ![1, 1, 2, W]
  wf := wf

/-- Adding one row into the memory at a hash, a bucket and a slot. -/
abbrev sd3 (W : Nat) (wf : ScatterDims.WF (SM W) S8192x2x3 (SR W) [2] [0, 1, 2] [0, 1, 2] 2) : ScatterDims (SM W) S8192x2x3 (SR W) where
  updateWindowDims := [2]
  insertedWindowDims := [0, 1, 2]
  scatterDimsToOperandDims := [0, 1, 2]
  indexVectorDim := 2
  wf := wf

/-- A small number's word, read signed, is the number. -/
theorem word_toInt {v : Nat} (hv : v < 2 ^ 31) : (BitVec.ofNat 32 v).toInt = (v : Int) := by
  rw [BitVec.toInt_eq_toNat_of_lt] <;> simp only [BitVec.toNat_ofNat] <;> omega

/-- A read of one row at words below the memory's sizes is that row. -/
theorem gather3_at {α : Type} {W : Nat} (wf) (x : (SM W).Idx → α) (idx : IVec S8192x2x3 32) (n : Fin 8192) (h : Fin 2) (k : Fin W)
    (p : Fin 2) (i : Fin 65536) (a : Fin 2) (h0 : idx (ix3 n h 0) = BitVec.ofNat 32 p.val)
    (h1 : idx (ix3 n h 1) = BitVec.ofNat 32 i.val) (h2 : idx (ix3 n h 2) = BitVec.ofNat 32 a.val) :
    Host.gather (gd3 W wf) x idx (ix3 n h k) = x (ix4 p i a k) := by
  have hs : ∀ c : Fin 3, (gd3 W wf).siIdx (ix3 n h k) c = (ix3 n h c : S8192x2x3.Idx) := fun c => by
    funext b; match b with
    | ⟨0, _⟩ => rfl
    | ⟨1, _⟩ => rfl
    | ⟨2, _⟩ => rfl
  unfold Host.gather
  congr 1
  funext ax
  refine Fin.ext ?_
  have hp := p.isLt
  have hi := i.isLt
  have ha := a.isLt
  match ax with
  | ⟨0, _⟩ =>
    show min (idx ((gd3 W wf).siIdx (ix3 n h k) 0)).toInt.toNat (2 - 1) + 0 + 0 = p.val
    rw [hs, h0, word_toInt (by omega)]; omega
  | ⟨1, _⟩ =>
    show min (idx ((gd3 W wf).siIdx (ix3 n h k) 1)).toInt.toNat (65536 - 1) + 0 + 0 = i.val
    rw [hs, h1, word_toInt (by omega)]; omega
  | ⟨2, _⟩ =>
    show min (idx ((gd3 W wf).siIdx (ix3 n h k) 2)).toInt.toNat (2 - 1) + 0 + 0 = a.val
    rw [hs, h2, word_toInt (by omega)]; omega
  | ⟨3, _⟩ =>
    show 0 + 0 + k.val = k.val
    omega

/-- A read of both rows at words below the memory's sizes is those rows. -/
theorem gather2_at {α : Type} {W : Nat} (wf) (x : (SM W).Idx → α) (idx : IVec S8192x2x2 32) (n : Fin 8192) (h : Fin 2) (a : Fin 2) (k : Fin W)
    (p : Fin 2) (i : Fin 65536) (h0 : idx (ix3 n h 0) = BitVec.ofNat 32 p.val)
    (h1 : idx (ix3 n h 1) = BitVec.ofNat 32 i.val) :
    Host.gather (gd2 W wf) x idx (ix4 n h a k) = x (ix4 p i a k) := by
  have hs : ∀ c : Fin 2, (gd2 W wf).siIdx (ix4 n h a k) c = (ix3 n h c : S8192x2x2.Idx) := fun c => by
    funext b; match b with
    | ⟨0, _⟩ => rfl
    | ⟨1, _⟩ => rfl
    | ⟨2, _⟩ => rfl
  unfold Host.gather
  congr 1
  funext ax
  refine Fin.ext ?_
  have hp := p.isLt
  have hi := i.isLt
  match ax with
  | ⟨0, _⟩ =>
    show min (idx ((gd2 W wf).siIdx (ix4 n h a k) 0)).toInt.toNat (2 - 1) + 0 + 0 = p.val
    rw [hs, h0, word_toInt (by omega)]; omega
  | ⟨1, _⟩ =>
    show min (idx ((gd2 W wf).siIdx (ix4 n h a k) 1)).toInt.toNat (65536 - 1) + 0 + 0 = i.val
    rw [hs, h1, word_toInt (by omega)]; omega
  | ⟨2, _⟩ =>
    show 0 + 0 + a.val = a.val
    omega
  | ⟨3, _⟩ =>
    show 0 + 0 + k.val = k.val
    omega

/-- Where an added row lands, for words below the memory's sizes. -/
theorem lands3 {W : Nat} (wf) (idx : IVec S8192x2x3 32) (n : Fin 8192) (h : Fin 2) (k' : Fin W)
    (p' : Fin 2) (i' : Fin 65536) (a' : Fin 2) (h0 : idx (ix3 n h 0) = BitVec.ofNat 32 p'.val)
    (h1 : idx (ix3 n h 1) = BitVec.ofNat 32 i'.val) (h2 : idx (ix3 n h 2) = BitVec.ofNat 32 a'.val)
    (p : Fin 2) (i : Fin 65536) (a : Fin 2) (k : Fin W) :
    (sd3 W wf).resultIdx? (ix3 n h k') idx = some (ix4 p i a k) ↔ p' = p ∧ i' = i ∧ a' = a ∧ k' = k := by
  have hs : ∀ c : Fin 3, (sd3 W wf).siIdx (ix3 n h k') c = (ix3 n h c : S8192x2x3.Idx) := fun c => by
    funext b; match b with
    | ⟨0, _⟩ => rfl
    | ⟨1, _⟩ => rfl
    | ⟨2, _⟩ => rfl
  have hp := p'.isLt
  have hi := i'.isLt
  have ha := a'.isLt
  have e0 : (sd3 W wf).start (ix3 n h k') idx 0 + ((sd3 W wf).window (ix3 n h k') 0 : Int) = p'.val := by
    show (idx ((sd3 W wf).siIdx (ix3 n h k') 0)).toInt + 0 = _
    rw [hs, h0, word_toInt (by omega)]; omega
  have e1 : (sd3 W wf).start (ix3 n h k') idx 1 + ((sd3 W wf).window (ix3 n h k') 1 : Int) = i'.val := by
    show (idx ((sd3 W wf).siIdx (ix3 n h k') 1)).toInt + 0 = _
    rw [hs, h1, word_toInt (by omega)]; omega
  have e2 : (sd3 W wf).start (ix3 n h k') idx 2 + ((sd3 W wf).window (ix3 n h k') 2 : Int) = a'.val := by
    show (idx ((sd3 W wf).siIdx (ix3 n h k') 2)).toInt + 0 = _
    rw [hs, h2, word_toInt (by omega)]; omega
  have e3 : (sd3 W wf).start (ix3 n h k') idx 3 + ((sd3 W wf).window (ix3 n h k') 3 : Int) = k'.val := by
    show (0 : Int) + (k'.val : Int) = _
    omega
  rw [Routing.resultIdx?_eq_some]
  constructor
  · intro q
    have q0 := e0.symm.trans (q 0)
    have q1 := e1.symm.trans (q 1)
    have q2 := e2.symm.trans (q 2)
    have q3 := e3.symm.trans (q 3)
    exact ⟨Fin.ext (Int.ofNat.inj q0), Fin.ext (Int.ofNat.inj q1), Fin.ext (Int.ofNat.inj q2), Fin.ext (Int.ofNat.inj q3)⟩
  · rintro ⟨rfl, rfl, rfl, rfl⟩ ax
    match ax with
    | ⟨0, _⟩ => exact e0
    | ⟨1, _⟩ => exact e1
    | ⟨2, _⟩ => exact e2
    | ⟨3, _⟩ => exact e3

/-- A sum over the tokens, hashes and row entries. -/
theorem sum_rows {W : Nat} (f : (SR W).Idx → EReal) : ∑ j, f j = ∑ n : Fin 8192, ∑ h : Fin 2, ∑ k : Fin W, f (ix3 n h k) := by
  have e : ∑ j, f j = ∑ t : Fin 8192 × Fin 2 × Fin W, f (ix3 t.1 t.2.1 t.2.2) := by
    refine Fintype.sum_equiv ⟨fun j => ((j 0 : Fin 8192), (j 1 : Fin 2), (j 2 : Fin W)), fun t => ix3 t.1 t.2.1 t.2.2, fun j => ?_, fun t => rfl⟩ _ _ fun j => ?_
    · exact (eq_ix3 j).symm
    · exact congrArg f (eq_ix3 j)
  rw [e, Fintype.sum_prod_type]
  exact Finset.sum_congr rfl fun n _ => Fintype.sum_prod_type _

/-- A row of the memory after the additions: its entry and the additions of the tokens that go there. -/
theorem scatter3_at {W : Nat} (wf) (x : FVec Ideal (SM W) .f32) (idx : IVec S8192x2x3 32) (upd : FVec Ideal (SR W) .f32)
    (bk : Fin 8192 → Fin 2 → Fin 65536) (sl : Fin 8192 → Fin 2 → Fin 2)
    (h0 : ∀ n h, idx (ix3 n h 0) = BitVec.ofNat 32 h.val)
    (h1 : ∀ n h, idx (ix3 n h 1) = BitVec.ofNat 32 (bk n h).val)
    (h2 : ∀ n h, idx (ix3 n h 2) = BitVec.ofNat 32 (sl n h).val)
    (p : Fin 2) (i : Fin 65536) (a : Fin 2) (k : Fin W) :
    Host.scatterAdd (F := Ideal) (sd3 W wf) x idx upd (ix4 p i a k)
      = ((x (ix4 p i a k) : EReal) + ∑ n : Fin 8192, if bk n p = i ∧ sl n p = a then (upd (ix3 n p k) : EReal) else 0 : EReal) := by
  show Ideal.hostScatterAdd (sd3 W wf) x idx upd (ix4 p i a k) = _
  unfold Ideal.hostScatterAdd
  rw [Finset.sum_filter, sum_rows]
  congr 1
  refine Finset.sum_congr rfl fun n _ => ?_
  simp only [lands3 wf idx n _ _ _ _ _ (h0 n _) (h1 n _) (h2 n _)]
  rw [Finset.sum_eq_single p]
  · rw [Finset.sum_eq_single k]
    · simp only [true_and, and_true]
    · intro k' _ hk; rw [if_neg fun q => hk q.2.2.2]
    · intro q; exact absurd (Finset.mem_univ _) q
  · intro h' _ hh
    refine Finset.sum_eq_zero fun k' _ => ?_
    rw [if_neg fun q => hh q.1]
  · intro q; exact absurd (Finset.mem_univ _) q

section
variable {F : FTy → Type} [FloatOps F]

theorem cat2_0 (a b) (n : Fin 8192) (h : Fin 2) : cat2 (F := F) a b (ix3 n h 0) = a (ix3 n h 0) := by
  unfold cat2; pointwise

theorem cat2_1 (a b) (n : Fin 8192) (h : Fin 2) : cat2 (F := F) a b (ix3 n h 1) = b (ix3 n h 0) := by
  unfold cat2; pointwise

theorem cat3_0 (a b c) (n : Fin 8192) (h : Fin 2) : cat3 (F := F) a b c (ix3 n h 0) = a (ix3 n h 0) := by
  unfold cat3; pointwise

theorem cat3_1 (a b c) (n : Fin 8192) (h : Fin 2) : cat3 (F := F) a b c (ix3 n h 1) = b (ix3 n h 0) := by
  unfold cat3; pointwise

theorem cat3_2 (a b c) (n : Fin 8192) (h : Fin 2) : cat3 (F := F) a b c (ix3 n h 2) = c (ix3 n h 0) := by
  unfold cat3; pointwise

end

end Cert.ReferenceIdeal.Hand

end
-- ==== Proof.Argmax.lean ====
module

public import proofs.«01_k».proof.Proof.RefRun
public import proofs.«01_k».proof.Proof.Consts
public import Idealize.ShloMosaic.Lib.Pipeline.ValueKit
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen

/-- A list without repetitions whose elements are exactly two is those two, in some order. -/
theorem list_pair {α : Type} {L : List α} {p q : α} (hn : L.Nodup) (hpq : p ≠ q) (hm : ∀ r, r ∈ L ↔ r = p ∨ r = q) :
    L = [p, q] ∨ L = [q, p] := by
  have hp : L.Perm [p, q] := (List.perm_ext_iff_of_nodup hn (by simp [hpq])).mpr fun r => by simp [hm]
  match L, hp.length_eq, hm, hn with
  | [a, b], _, hm, hn =>
    have ha := (hm a).mp (by simp)
    have hb := (hm b).mp (by simp)
    have hab : a ≠ b := by simpa using hn
    rcases ha with rfl | rfl <;> rcases hb with rfl | rfl
    · exact absurd rfl hab
    · exact Or.inl rfl
    · exact Or.inr rfl
    · exact absurd rfl hab

/-- The slot the reduction finds is the first of the best. -/
theorem argmax1_at (x : (⟨S8192x2x2, .f32⟩ : BufTy).Contents (Elt Ideal)) (n : Fin 8192) (h : Fin 2) :
    argmax1 (F := Ideal) x (iotaInDim S8192x2x2 32 2) (constant (F := Ideal) S_ .f32 0xFF800000#32) (constantI S_ 32 0#32) (ix2 n h)
      = BitVec.ofNat 32 (if (x (ix3 n h 0) : EReal) < x (ix3 n h 1) then 1 else 0 : Fin 2).val := by
  unfold argmax1
  rw [Ideal.argReduce_eq_reduce2, Host.reduce2_eq_foldl_fiber]
  unfold Host.argReduceFiber
  have hne : S8192x2x2.rowMajor (ix3 n h 0) ≠ S8192x2x2.rowMajor (ix3 n h 1) := fun q => by
    have := congrFun (S8192x2x2.rowMajor.injective q) 2
    exact absurd (congrArg Fin.val this) (by show ¬ (0 = 1); decide)
  have hm : ∀ r, r ∈ (List.finRange S8192x2x2.numel).filter (fun m => reducesTo_S8192x2x2_S8192x2_d2.drop (S8192x2x2.rowMajor.symm m) = (ix2 n h : S8192x2.Idx))
      ↔ r = S8192x2x2.rowMajor (ix3 n h 0) ∨ r = S8192x2x2.rowMajor (ix3 n h 1) := fun r => by
    rw [List.mem_filter]
    simp only [List.mem_finRange, true_and, decide_eq_true_eq]
    obtain ⟨i, rfl⟩ := S8192x2x2.rowMajor.surjective r
    rw [Equiv.symm_apply_apply, S8192x2x2.rowMajor.injective.eq_iff, S8192x2x2.rowMajor.injective.eq_iff]
    have hd : reducesTo_S8192x2x2_S8192x2_d2.drop i = (ix2 (i 0) (i 1) : S8192x2.Idx) := by
      funext a; match a with
      | ⟨0, _⟩ => rfl
      | ⟨1, _⟩ => rfl
    rw [hd]
    constructor
    · intro q
      have q0 : i 0 = n := congrFun q 0
      have q1 : i 1 = h := congrFun q 1
      have h2 : (i 2).val < 2 := (i 2).isLt
      rcases (show (i 2).val = 0 ∨ (i 2).val = 1 by omega) with e | e
      · left; rw [eq_ix3 i, q0, q1]; congr 1; exact Fin.ext e
      · right; rw [eq_ix3 i, q0, q1]; congr 1; exact Fin.ext e
    · rintro (rfl | rfl) <;> rfl
  rcases list_pair ((List.nodup_finRange _).filter _) hne hm with e | e <;> rw [e] <;>
    simp only [List.map_cons, List.map_nil, List.foldl_cons, List.foldl_nil, Equiv.symm_apply_apply, reducer_argmax_f32_i32] <;>
    pointwise <;> simp only [Cert.Spec.negInf] <;> generalize (x (ix3 n h 0) : EReal) = x0 <;> generalize (x (ix3 n h 1) : EReal) = x1
  · have h0 : ¬ x0 < ⊥ := not_lt_bot
    rcases lt_trichotomy x0 x1 with hx | hx | hx
    · simp [Scalar.select, IntOp.ori, IntOp.andi, IntOp.cmpi, hx, hx.not_gt, hx.ne]
    · simp [Scalar.select, IntOp.ori, IntOp.andi, IntOp.cmpi, hx]
    · simp [Scalar.select, IntOp.ori, IntOp.andi, IntOp.cmpi, hx, hx.not_gt, hx.ne']
  · have h0 : ¬ x0 < ⊥ := not_lt_bot
    rcases eq_or_ne x1 ⊥ with hb | hb
    · subst hb
      rcases eq_or_ne x0 ⊥ with h0' | h0'
      · simp [Scalar.select, IntOp.ori, IntOp.andi, IntOp.cmpi, h0']
      · simp [Scalar.select, IntOp.ori, IntOp.andi, IntOp.cmpi, h0'.symm]
    · rcases lt_trichotomy x0 x1 with hx | hx | hx
      · simp [Scalar.select, IntOp.ori, IntOp.andi, IntOp.cmpi, hx, hb.symm]
      · simp [Scalar.select, IntOp.ori, IntOp.andi, IntOp.cmpi, hx, hb.symm]
      · simp [Scalar.select, IntOp.ori, IntOp.andi, IntOp.cmpi, hx, hx.not_gt, hx.ne, hb.symm]

end Cert.ReferenceIdeal.Hand

end
-- ==== Proof.RefMem.lean ====
module

public import proofs.«01_k».proof.Proof.RefReads
public import proofs.«01_k».proof.Proof.GS
public import proofs.«01_k».proof.Proof.Argmax

@[expose] public section

set_option maxRecDepth 16384

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Idealize.ShloMosaic.StableHlo

variable (b : Valuation τ sig (Elt Ideal))

/-- A hash's word and its bucket's, side by side. -/
theorem pair_at (u : Valuation τ sig (Elt Ideal)) (h15 : u (Proc.devRef .tc main_v15) = U1 b (Proc.devRef .tc main_v15))
    (h12 : u (Proc.devRef .tc main_v12) = U1 b (Proc.devRef .tc main_v12)) (n : Fin 8192) (h : Fin 2) :
    cat2 (F := Ideal) (broadcastInDim S8192x2x1 ![0, 1] bcast_S8192x2_S8192x2x1_0_1 (u (Proc.devRef .tc main_v15)))
        (broadcastInDim S8192x2x1 ![0, 1] bcast_S8192x2_S8192x2x1_0_1 (u (Proc.devRef .tc main_v12))) (ix3 n h 0) = BitVec.ofNat 32 h.val
      ∧ cat2 (F := Ideal) (broadcastInDim S8192x2x1 ![0, 1] bcast_S8192x2_S8192x2x1_0_1 (u (Proc.devRef .tc main_v15)))
        (broadcastInDim S8192x2x1 ![0, 1] bcast_S8192x2_S8192x2x1_0_1 (u (Proc.devRef .tc main_v12))) (ix3 n h 1) = BitVec.ofNat 32 (Spec.bk (inOf b) n h).val := by
  rw [h15, h12]
  refine ⟨(cat2_0 _ _ n h).trans ?_, (cat2_1 _ _ n h).trans ?_⟩
  · pointwise; exact v15_at b n h
  · pointwise; exact v12_at b n h

/-- The slots. -/
theorem v44_at (n : Fin 8192) (h : Fin 2) : (U3 b (Proc.devRef .tc main_v44) : IVec S8192x2 32) (ix2 n h) = BitVec.ofNat 32 (Spec.sl (inOf b) n h).val := by
  unfold U3; after_reads_at
  rw [argmax1_at]
  pointwise
  rw [Spec.root]
  simp only [Spec.div_sqrt_lt]
  have p := pair_at b (U2 b) (kept1 b _ (by decide) _ (by simp)) (kept1 b _ (by decide) _ (by simp)) n h
  have e : ∀ a k, Host.gather gather_S2x65536x2x32_S8192x2x2_S8192x2x2x32_23_01_n_n_01_2_11232 (U2 b (Proc.devRef .tc main_arg9))
      (cat2 (F := Ideal) (broadcastInDim S8192x2x1 ![0, 1] bcast_S8192x2_S8192x2x1_0_1 (U2 b (Proc.devRef .tc main_v15)))
        (broadcastInDim S8192x2x1 ![0, 1] bcast_S8192x2_S8192x2x1_0_1 (U2 b (Proc.devRef .tc main_v12)))) (ix4 n h a k) = (inOf b).K h (Spec.bk (inOf b) n h) a k :=
    fun a k => (gather2_at (W := 32) _ _ _ n h a k h _ p.1 p.2).trans (congrFun (kept0 b main_arg9 (by decide) (U2 b) (by simp)) _)
  simp only [e]
  have m : ∀ a, (∑ x, HMul.hMul (α := EReal) (β := EReal) ((inOf b).K h (Spec.bk (inOf b) n h) a x) ((U2 b (Proc.devRef .tc main_v16) : FVec Ideal S8192x32 .f32) (ix2 n x)))
      = Spec.mat (inOf b) n h a := fun a => Finset.sum_congr rfl fun x _ => congrArg (_ * ·) (v16_at b n x)
  simp only [m]
  rfl

section words
variable (u : Valuation τ sig (Elt Ideal)) (n : Fin 8192) (h : Fin 2) (k : Fin 32) (v : Fin 64)

theorem v46_of : (after keysAOps u (Proc.devRef .tc main_v46) : IVec S8192x2x1 32) (ix3 n h 0) = (u (Proc.devRef .tc main_v15) : IVec S8192x2 32) (ix2 n h) := by after_reads_at
theorem v47_of : (after keysAOps u (Proc.devRef .tc main_v47) : IVec S8192x2x1 32) (ix3 n h 0) = (u (Proc.devRef .tc main_v12) : IVec S8192x2 32) (ix2 n h) := by after_reads_at
theorem v48_of : (after keysAOps u (Proc.devRef .tc main_v48) : IVec S8192x2x1 32) (ix3 n h 0) = (u (Proc.devRef .tc main_v44) : IVec S8192x2 32) (ix2 n h) := by after_reads_at
theorem v55_of : (after keysCOps u (Proc.devRef .tc main_v55) : IVec S8192x2x1 32) (ix3 n h 0) = (u (Proc.devRef .tc main_v15) : IVec S8192x2 32) (ix2 n h) := by after_reads_at
theorem v56_of : (after keysCOps u (Proc.devRef .tc main_v56) : IVec S8192x2x1 32) (ix3 n h 0) = (u (Proc.devRef .tc main_v12) : IVec S8192x2 32) (ix2 n h) := by after_reads_at
theorem v57_of : (after keysCOps u (Proc.devRef .tc main_v57) : IVec S8192x2x1 32) (ix3 n h 0) = (u (Proc.devRef .tc main_v44) : IVec S8192x2 32) (ix2 n h) := by after_reads_at
theorem v61_of : (after valsAOps u (Proc.devRef .tc main_v61) : IVec S8192x2x1 32) (ix3 n h 0) = (u (Proc.devRef .tc main_v15) : IVec S8192x2 32) (ix2 n h) := by after_reads_at
theorem v62_of : (after valsAOps u (Proc.devRef .tc main_v62) : IVec S8192x2x1 32) (ix3 n h 0) = (u (Proc.devRef .tc main_v12) : IVec S8192x2 32) (ix2 n h) := by after_reads_at
theorem v63_of : (after valsAOps u (Proc.devRef .tc main_v63) : IVec S8192x2x1 32) (ix3 n h 0) = (u (Proc.devRef .tc main_v44) : IVec S8192x2 32) (ix2 n h) := by after_reads_at
theorem v70_of : (after valsBOps u (Proc.devRef .tc main_v70) : IVec S8192x2x1 32) (ix3 n h 0) = (u (Proc.devRef .tc main_v15) : IVec S8192x2 32) (ix2 n h) := by after_reads_at
theorem v71_of : (after valsBOps u (Proc.devRef .tc main_v71) : IVec S8192x2x1 32) (ix3 n h 0) = (u (Proc.devRef .tc main_v12) : IVec S8192x2 32) (ix2 n h) := by after_reads_at
theorem v72_of : (after valsBOps u (Proc.devRef .tc main_v72) : IVec S8192x2x1 32) (ix3 n h 0) = (u (Proc.devRef .tc main_v44) : IVec S8192x2 32) (ix2 n h) := by after_reads_at
theorem v76_of : (after tagsAOps u (Proc.devRef .tc main_v76) : IVec S8192x2x1 32) (ix3 n h 0) = (u (Proc.devRef .tc main_v15) : IVec S8192x2 32) (ix2 n h) := by after_reads_at
theorem v77_of : (after tagsAOps u (Proc.devRef .tc main_v77) : IVec S8192x2x1 32) (ix3 n h 0) = (u (Proc.devRef .tc main_v12) : IVec S8192x2 32) (ix2 n h) := by after_reads_at
theorem v78_of : (after tagsAOps u (Proc.devRef .tc main_v78) : IVec S8192x2x1 32) (ix3 n h 0) = (u (Proc.devRef .tc main_v44) : IVec S8192x2 32) (ix2 n h) := by after_reads_at
theorem v85_of : (after tagsBOps u (Proc.devRef .tc main_v85) : IVec S8192x2x1 32) (ix3 n h 0) = (u (Proc.devRef .tc main_v15) : IVec S8192x2 32) (ix2 n h) := by after_reads_at
theorem v86_of : (after tagsBOps u (Proc.devRef .tc main_v86) : IVec S8192x2x1 32) (ix3 n h 0) = (u (Proc.devRef .tc main_v12) : IVec S8192x2 32) (ix2 n h) := by after_reads_at
theorem v87_of : (after tagsBOps u (Proc.devRef .tc main_v87) : IVec S8192x2x1 32) (ix3 n h 0) = (u (Proc.devRef .tc main_v44) : IVec S8192x2 32) (ix2 n h) := by after_reads_at

end words

/-- Three words side by side, the hash's, the bucket's and the slot's. -/
theorem triple_at (u : Valuation τ sig (Elt Ideal)) (h15 : u (Proc.devRef .tc main_v15) = U1 b (Proc.devRef .tc main_v15))
    (h12 : u (Proc.devRef .tc main_v12) = U1 b (Proc.devRef .tc main_v12)) (h44 : u (Proc.devRef .tc main_v44) = U3 b (Proc.devRef .tc main_v44))
    (x y z : (⟨S8192x2x1, .i32⟩ : BufTy).Contents (Elt Ideal))
    (hx : ∀ n h, x (ix3 n h 0) = (u (Proc.devRef .tc main_v15) : IVec S8192x2 32) (ix2 n h))
    (hy : ∀ n h, y (ix3 n h 0) = (u (Proc.devRef .tc main_v12) : IVec S8192x2 32) (ix2 n h))
    (hz : ∀ n h, z (ix3 n h 0) = (u (Proc.devRef .tc main_v44) : IVec S8192x2 32) (ix2 n h)) :
    (∀ n h, cat3 (F := Ideal) x y z (ix3 n h 0) = BitVec.ofNat 32 h.val) ∧ (∀ n h, cat3 (F := Ideal) x y z (ix3 n h 1) = BitVec.ofNat 32 (Spec.bk (inOf b) n h).val)
      ∧ (∀ n h, cat3 (F := Ideal) x y z (ix3 n h 2) = BitVec.ofNat 32 (Spec.sl (inOf b) n h).val) := by
  refine ⟨fun n h => ?_, fun n h => ?_, fun n h => ?_⟩
  · rw [cat3_0, hx, h15]; exact v15_at b n h
  · rw [cat3_1, hy, h12]; exact v12_at b n h
  · rw [cat3_2, hz, h44]; exact v44_at b n h

/-- The matched slots' keys. -/
theorem v50_at (n : Fin 8192) (h : Fin 2) (k : Fin 32) :
    ((U5 b (Proc.devRef .tc main_v50) : FVec Ideal S8192x2x32 .f32) (ix3 n h k) : EReal) = (inOf b).K h (Spec.bk (inOf b) n h) (Spec.sl (inOf b) n h) k := by
  have t := triple_at b (U3 b) (kept1 b _ (by decide) _ (by simp)) (kept1 b _ (by decide) _ (by simp)) rfl _ _ _ (v46_of (U3 b)) (v47_of (U3 b)) (v48_of (U3 b))
  unfold U5; after_reads_at
  exact (gather3_at (W := 32) _ _ _ n h k h _ _ (t.1 n h) (t.2.1 n h) (t.2.2 n h)).trans (congrFun (kept0 b main_arg9 (by decide) (U4 b) (by simp)) _)

/-- What the gate's stretch and the slots' leave, kept. -/
theorem kept2 (r : Ref sig .tc) (hs : r ∉ slotW) (h : r ∉ keysAW ++ (keysBW ++ (keysCW ++ (keysDW ++ (valsAW ++ (valsBW ++ (valsCW ++ (tagsAW ++ (tagsBW ++ tagsCW))))))))) :
    ∀ u ∈ [U4 b, U5 b, U6 b, U7 b, U8 b, U9 b, U10 b, U11 b, U12 b, U13 b], u (Proc.devRef .tc r) = U2 b (Proc.devRef .tc r) :=
  fun u hu => (kept3 b r h u hu).trans (slot_of (U2 b) r hs)

/-- What is added to the keys. -/
theorem v54_at (n : Fin 8192) (h : Fin 2) (k : Fin 32) :
    ((U6 b (Proc.devRef .tc main_v54) : FVec Ideal S8192x2x32 .f32) (ix3 n h k) : EReal) = Spec.dK (inOf b) n h k := by
  have e : (U5 b (Proc.devRef .tc main_v45) : FVec Ideal S8192x1x32 .f32) (ix3 n 0 k) = Spec.wkey (inOf b) n k := by
    rw [show U5 b (Proc.devRef .tc main_v45) = U4 b (Proc.devRef .tc main_v45) from keysB_of (U4 b) _ (by decide)]
    unfold U4; after_reads_at
    exact (congrFun (slot_of (U2 b) main_v16 (by decide)) _).trans (v16_at b n k)
  unfold U6; after_reads_at
  rw [e, v50_at, kept2 b main_v33 (by decide) (by decide) (U5 b) (by simp), v33_at]
  rfl

/-- A row of the memory after the additions, from what is added. -/
theorem scatterAcc {W : Nat} (wf) (x : FVec Ideal (SM W) .f32) (idx : IVec S8192x2x3 32) (upd : FVec Ideal (SR W) .f32)
    (t : (∀ n h, idx (ix3 n h 0) = BitVec.ofNat 32 h.val) ∧ (∀ n h, idx (ix3 n h 1) = BitVec.ofNat 32 (Spec.bk (inOf b) n h).val)
      ∧ (∀ n h, idx (ix3 n h 2) = BitVec.ofNat 32 (Spec.sl (inOf b) n h).val)) (p : Fin 2) (i : Fin 65536) (a : Fin 2) (k : Fin W)
    (X : EReal) (f : Fin 8192 → EReal) (hx : x (ix4 p i a k) = X) (hu : ∀ n, upd (ix3 n p k) = f n) :
    Host.scatterAdd (F := Ideal) (sd3 W wf) x idx upd (ix4 p i a k) = X + Spec.acc (inOf b) f p i a := by
  rw [scatter3_at wf x idx upd (Spec.bk (inOf b)) (Spec.sl (inOf b)) t.1 t.2.1 t.2.2 p i a k, hx]
  unfold Spec.acc
  exact congrArg (X + ·) (Finset.sum_congr rfl fun n _ => by rw [hu n])

/-- The updated keys. -/
theorem v59_at (p : Fin 2) (i : Fin 65536) (a : Fin 2) (k : Fin 32) :
    ((U7 b (Proc.devRef .tc main_v59) : FVec Ideal S2x65536x2x32 .f32) (ix4 p i a k) : EReal)
      = (inOf b).K p i a k + Spec.acc (inOf b) (fun n => Spec.dK (inOf b) n p k) p i a := by
  have t := triple_at b (U5 b) (kept1 b _ (by decide) _ (by simp)) (kept1 b _ (by decide) _ (by simp)) (kept3 b _ (by decide) _ (by simp)) _ _ _ (v55_of (U5 b)) (v56_of (U5 b)) (v57_of (U5 b))
  unfold U7; after_reads_at
  exact scatterAcc (W := 32) b _ _ _ _ t p i a k _ _ (congrFun (kept0 b main_arg9 (by decide) (U6 b) (by simp)) _) fun n => v54_at b n p k

/-- What is added to the values. -/
theorem v69_at (n : Fin 8192) (h : Fin 2) (k : Fin 64) :
    ((U9 b (Proc.devRef .tc main_v69) : FVec Ideal S8192x2x64 .f32) (ix3 n h k) : EReal) = Spec.dV (inOf b) n h k := by
  have t := triple_at b (U7 b) (kept1 b _ (by decide) _ (by simp)) (kept1 b _ (by decide) _ (by simp)) (kept3 b _ (by decide) _ (by simp)) _ _ _ (v61_of (U7 b)) (v62_of (U7 b)) (v63_of (U7 b))
  have e : (U8 b (Proc.devRef .tc main_v60) : FVec Ideal S8192x1x64 .f32) (ix3 n 0 k) = Spec.val (inOf b) n k := by
    unfold U8; after_reads_at
    rw [kept2 b main_v17 (by decide) (by decide) (U7 b) (by simp)]
    exact v17_at b n k
  unfold U9; after_reads_at
  rw [e, kept2 b main_v33 (by decide) (by decide) (U8 b) (by simp), v33_at]
  refine congrArg (fun z : EReal => Spec.gE (inOf b) n * (Spec.val (inOf b) n k - z)) ?_
  exact (gather3_at (W := 64) _ _ _ n h k h _ _ (t.1 n h) (t.2.1 n h) (t.2.2 n h)).trans (congrFun (kept0 b main_arg10 (by decide) (U8 b) (by simp)) _)

/-- The updated values. -/
theorem v74_at (p : Fin 2) (i : Fin 65536) (a : Fin 2) (k : Fin 64) :
    ((U10 b (Proc.devRef .tc main_v74) : FVec Ideal S2x65536x2x64 .f32) (ix4 p i a k) : EReal)
      = (inOf b).V p i a k + Spec.acc (inOf b) (fun n => Spec.dV (inOf b) n p k) p i a := by
  have t := triple_at b (U8 b) (kept1 b _ (by decide) _ (by simp)) (kept1 b _ (by decide) _ (by simp)) (kept3 b _ (by decide) _ (by simp)) _ _ _ (v70_of (U8 b)) (v71_of (U8 b)) (v72_of (U8 b))
  unfold U10; after_reads_at
  exact scatterAcc (W := 64) b _ _ _ _ t p i a k _ _ (congrFun (kept0 b main_arg10 (by decide) (U9 b) (by simp)) _) fun n => v69_at b n p k

/-- What is added to the tags. -/
theorem v84_at (n : Fin 8192) (h : Fin 2) (k : Fin 32) :
    ((U12 b (Proc.devRef .tc main_v84) : FVec Ideal S8192x2x32 .f32) (ix3 n h k) : EReal) = Spec.dT (inOf b) n h k := by
  have t := triple_at b (U10 b) (kept1 b _ (by decide) _ (by simp)) (kept1 b _ (by decide) _ (by simp)) (kept3 b _ (by decide) _ (by simp)) _ _ _ (v76_of (U10 b)) (v77_of (U10 b)) (v78_of (U10 b))
  have e : (U11 b (Proc.devRef .tc main_v75) : FVec Ideal S8192x1x32 .f32) (ix3 n 0 k) = Spec.wtag (inOf b) n k := by
    unfold U11; after_reads_at
    rw [kept2 b main_v35 (by decide) (by decide) (U10 b) (by simp)]
    exact v35_at b n k
  unfold U12; after_reads_at
  rw [e, kept2 b main_v33 (by decide) (by decide) (U11 b) (by simp), v33_at]
  refine congrArg (fun z : EReal => Spec.gE (inOf b) n * (Spec.wtag (inOf b) n k - z)) ?_
  exact (gather3_at (W := 32) _ _ _ n h k h _ _ (t.1 n h) (t.2.1 n h) (t.2.2 n h)).trans (congrFun (kept0 b main_arg11 (by decide) (U11 b) (by simp)) _)

/-- The updated tags. -/
theorem v89_at (p : Fin 2) (i : Fin 65536) (a : Fin 2) (k : Fin 32) :
    ((U13 b (Proc.devRef .tc main_v89) : FVec Ideal S2x65536x2x32 .f32) (ix4 p i a k) : EReal)
      = (inOf b).T p i a k + Spec.acc (inOf b) (fun n => Spec.dT (inOf b) n p k) p i a := by
  have t := triple_at b (U11 b) (kept1 b _ (by decide) _ (by simp)) (kept1 b _ (by decide) _ (by simp)) (kept3 b _ (by decide) _ (by simp)) _ _ _ (v85_of (U11 b)) (v86_of (U11 b)) (v87_of (U11 b))
  unfold U13; after_reads_at
  exact scatterAcc (W := 32) b _ _ _ _ t p i a k _ _ (congrFun (kept0 b main_arg11 (by decide) (U12 b) (by simp)) _) fun n => v84_at b n p k

end Cert.ReferenceIdeal.Hand

end
-- ==== Proof.RefOut.lean ====
module

public import proofs.«01_k».proof.Proof.RefMem

@[expose] public section

set_option maxRecDepth 16384

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Idealize.ShloMosaic.StableHlo

variable (b : Valuation τ sig (Elt Ideal))

/-- The updated keys, after the later stretches. -/
theorem v59_kept : U13 b (Proc.devRef .tc main_v59) = U7 b (Proc.devRef .tc main_v59) :=
  (tagsC_of (U12 b) _ (by decide)).trans <| (tagsB_of (U11 b) _ (by decide)).trans <| (tagsA_of (U10 b) _ (by decide)).trans <|
    (valsC_of (U9 b) _ (by decide)).trans <| (valsB_of (U8 b) _ (by decide)).trans (valsA_of (U7 b) _ (by decide))

/-- The updated values, after the later stretches. -/
theorem v74_kept : U14 b (Proc.devRef .tc main_v74) = U10 b (Proc.devRef .tc main_v74) :=
  (logits_of (U13 b) _ (by decide)).trans <| (tagsC_of (U12 b) _ (by decide)).trans <| (tagsB_of (U11 b) _ (by decide)).trans (tagsA_of (U10 b) _ (by decide))

/-- The updated keys a token reads. -/
theorem k2_at (n : Fin 8192) (h a : Fin 2) (k : Fin 32) : (Host.gather gather_S2x65536x2x32_S8192x2x2_S8192x2x2x32_23_01_n_n_01_2_11232 (U13 b (Proc.devRef .tc main_v59))
      (cat2 (F := Ideal) (broadcastInDim S8192x2x1 ![0, 1] bcast_S8192x2_S8192x2x1_0_1 (U13 b (Proc.devRef .tc main_v15)))
        (broadcastInDim S8192x2x1 ![0, 1] bcast_S8192x2_S8192x2x1_0_1 (U13 b (Proc.devRef .tc main_v12)))) (ix4 n h a k) : EReal) = Spec.K2 (inOf b) n h a k := by
  have p := pair_at b (U13 b) (kept1 b _ (by decide) _ (by simp)) (kept1 b _ (by decide) _ (by simp)) n h
  exact (gather2_at (W := 32) _ _ _ n h a k h _ p.1 p.2).trans ((congrFun (v59_kept b) _).trans (v59_at b h _ a k))

/-- The updated tags a token reads. -/
theorem t2_at (n : Fin 8192) (h a : Fin 2) (k : Fin 32) : (Host.gather gather_S2x65536x2x32_S8192x2x2_S8192x2x2x32_23_01_n_n_01_2_11232 (U13 b (Proc.devRef .tc main_v89))
      (cat2 (F := Ideal) (broadcastInDim S8192x2x1 ![0, 1] bcast_S8192x2_S8192x2x1_0_1 (U13 b (Proc.devRef .tc main_v15)))
        (broadcastInDim S8192x2x1 ![0, 1] bcast_S8192x2_S8192x2x1_0_1 (U13 b (Proc.devRef .tc main_v12)))) (ix4 n h a k) : EReal) = Spec.T2 (inOf b) n h a k := by
  have p := pair_at b (U13 b) (kept1 b _ (by decide) _ (by simp)) (kept1 b _ (by decide) _ (by simp)) n h
  exact (gather2_at (W := 32) _ _ _ n h a k h _ p.1 p.2).trans (v89_at b h _ a k)

/-- The updated values a token reads. -/
theorem v2_at (n : Fin 8192) (h a : Fin 2) (k : Fin 64) : (Host.gather gather_S2x65536x2x64_S8192x2x2_S8192x2x2x64_23_01_n_n_01_2_11264 (U14 b (Proc.devRef .tc main_v74))
      (cat2 (F := Ideal) (broadcastInDim S8192x2x1 ![0, 1] bcast_S8192x2_S8192x2x1_0_1 (U14 b (Proc.devRef .tc main_v15)))
        (broadcastInDim S8192x2x1 ![0, 1] bcast_S8192x2_S8192x2x1_0_1 (U14 b (Proc.devRef .tc main_v12)))) (ix4 n h a k) : EReal) = Spec.V2 (inOf b) n h a k := by
  have p := pair_at b (U14 b) (kept1 b _ (by decide) _ (by simp)) (kept1 b _ (by decide) _ (by simp)) n h
  exact (gather2_at (W := 64) _ _ _ n h a k h _ p.1 p.2).trans ((congrFun (v74_kept b) _).trans (v74_at b h _ a k))

/-- The logits. -/
theorem v108_at (n : Fin 8192) (q : Fin 4) : ((U14 b (Proc.devRef .tc main_v108) : FVec Ideal S8192x4 .f32) (ix2 n q) : EReal) = Spec.logit (inOf b) n q := by
  have e1 : ∀ k, (U13 b (Proc.devRef .tc main_v1) : FVec Ideal S8192x32 .f32) (ix2 n k) = Spec.tag (inOf b) n k := fun k =>
    (congrFun (kept1 b main_v1 (by decide) (U13 b) (by simp)) _).trans (v1_at b n k)
  unfold U14; after_reads_at
  rw [Spec.root]
  refine congrArg₂ (fun s t : EReal => Ideal.div s _ + t) (Finset.sum_congr rfl fun k _ => congrArg₂ (· * ·) (k2_at b n _ _ k) (e1 k)) ?_
  refine Finset.sum_congr rfl fun k _ => congrArg₂ (· * ·) (t2_at b n _ _ k) (congrArg Ideal.tanh ?_)
  exact Finset.sum_congr rfl fun x _ => congrArg₂ (· * ·) (e1 x) (congrFun (kept0 b main_arg7 (by decide) (U13 b) (by simp)) _)

/-- A softmax over the slots of both hashes, weighing what the slots hold, in either order of the slots. -/
theorem soft_sum (l L : Fin 4 → EReal) (hl : ∀ q, l q = L q) (g w : Fin 2 → Fin 2 → EReal) (hg : ∀ h a, g h a = w h a) :
    (∑ a : Fin 2, ∑ h : Fin 2, Ideal.div (Ideal.exp (l ⟨h.val * 2 + a.val, by omega⟩ - max ⊥ (Finset.univ.fold max ⊥ l)))
        (∑ x, Ideal.exp (l x - max ⊥ (Finset.univ.fold max ⊥ l))) * g h a)
      = ∑ q, Spec.soft L q * w (Spec.hq q) (Spec.aq q) := by
  obtain rfl : l = L := funext hl
  obtain rfl : g = w := funext fun h => funext (hg h)
  simp only [max_eq_right bot_le]
  show (∑ a : Fin 2, ∑ h : Fin 2, Spec.soft l ⟨h.val * 2 + a.val, _⟩ * g h a) = _
  rw [Fin.sum_univ_four]
  simp only [Fin.sum_univ_two]
  show (Spec.soft l 0 * g 0 0 + Spec.soft l 2 * g 1 0) + (Spec.soft l 1 * g 0 1 + Spec.soft l 3 * g 1 1)
    = Spec.soft l 0 * g 0 0 + Spec.soft l 1 * g 0 1 + Spec.soft l 2 * g 1 0 + Spec.soft l 3 * g 1 1
  abel

/-- The reference's output. -/
theorem v127_at (n : Fin 8192) (j : Fin 1024) :
    ((U15 b (Proc.devRef .tc main_v127) : FVec Ideal S2x4096x1024 .f32) (ix3 ⟨n.val / 4096, by omega⟩ ⟨n.val % 4096, by omega⟩ j) : EReal) = Spec.out (inOf b) n j := by
  unfold U15; after_reads_at
  rw [Spec.negInf]
  refine Finset.sum_congr rfl fun v _ => congrArg₂ (· * ·) ?_ (congrFun (kept0 b main_arg4 (by decide) (U14 b) (by simp)) _)
  have e := soft_sum (fun q : Fin 4 => (U14 b (Proc.devRef .tc main_v108) : FVec Ideal S8192x4 .f32) (ix2 n q)) _ (v108_at b n) _ (fun h a => Spec.V2 (inOf b) n h a v) fun h a => v2_at b n h a v
  show _ = ∑ q, Spec.soft (Spec.logit (inOf b) n) q * Spec.V2 (inOf b) n (Spec.hq q) (Spec.aq q) v
  rw [← e]

end Cert.ReferenceIdeal.Hand

end
-- ==== Proof.Join.lean ====
module

public import proofs.«01_k».proof.Proof.KH6
public import proofs.«01_k».proof.Proof.Alg
public import proofs.«01_k».proof.Proof.RefOut
public import proofs.«01_k».proof.Proof.Gen.Pre_finite
public import proofs.«01_k».proof.Defs

@[expose] public section

set_option maxRecDepth 16384

noncomputable section

open Idealize.ShloMosaic Idealize.ShloMosaic.TcCoe Idealize.SL.Sem
open Idealize.ShloMosaic.Pipeline (Dat)

namespace Cert.Join

open Idealize.ShloMosaic Idealize.ShloMosaic.StableHlo

/-- The program's launch memory, and the reference's. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

variable (m : KMem) (ρ : Dev Cert.KernelIdeal.nD → PrngReg) (m' : RMem) (c : Dev Cert.KernelIdeal.nD)

/-- Equal argument arrays give the two programs the same specification's input. -/
theorem in_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Hand.inOf (launchContents m' c) = Cert.KernelIdeal.Val.I0 m ρ c := by
  obtain ⟨h0, h1, h2, h3, h4, h5, h6, h7, h8, h9, h10, h11⟩ := h
  refine (Spec.In.mk.injEq ..).mpr ⟨?_, ?_, ?_, ?_, ?_, ?_, ?_, ?_, ?_, ?_, ?_, ?_⟩
  · exact funext fun n => funext fun k => congrFun h0 _
  · exact funext fun n => funext fun k => congrFun h1 _
  · exact funext fun n => funext fun k => congrFun h2 _
  · exact funext fun n => funext fun k => congrFun h3 _
  · exact funext fun n => funext fun k => congrFun h4 _
  · exact funext fun n => congrFun h5 _
  · exact congrFun h6 _
  · exact funext fun n => funext fun k => congrFun h7 _
  · exact funext fun n => funext fun k => funext fun t => congrFun h8 _
  · exact funext fun n => funext fun k => funext fun a => funext fun t => congrFun h9 _
  · exact funext fun n => funext fun k => funext fun a => funext fun t => congrFun h10 _
  · exact funext fun n => funext fun k => funext fun a => funext fun t => congrFun h11 _

/-- Under the precondition the tokens, the query projection, the stored keys and the stored tags are real. -/
theorem real_in (h : Cert.Pre_KernelIdeal_finite m) : Spec.Fin₀ (Cert.KernelIdeal.Val.I0 m ρ c) := by
  obtain ⟨h0, h1, h2, h3⟩ := h c
  exact ⟨fun n k => Spec.isReal_of_lt _ (congrFun h0 _), fun n k => Spec.isReal_of_lt _ (congrFun h1 _),
    fun i j a k => Spec.isReal_of_lt _ (congrFun h2 _), fun i j a k => Spec.isReal_of_lt _ (congrFun h3 _)⟩

/-- The output formed from the split logits is the specification's. -/
theorem kout_eq (I : Spec.In) (hI : Spec.Fin₀ I) (n : Fin 8192) (j : Fin 1024) : Cert.KernelIdeal.Val.kout I n j = Spec.out I n j := by
  have e : Cert.KernelIdeal.Val.klogit I n = Spec.logit I n := funext fun q => Spec.logit_split I hI n q
  unfold Cert.KernelIdeal.Val.kout Spec.out Spec.read
  rw [e]

/-- The two programs' results agree. -/
theorem out_eq (hp : Cert.Pre_KernelIdeal_finite m) (h : Cert.ReferenceIdeal.Hand.inOf (launchContents m' c) = Cert.KernelIdeal.Val.I0 m ρ c) :
    (Cert.ReferenceIdeal.Hand.U15 (launchContents m' c) (Proc.devRef .tc Cert.ReferenceIdeal.main_v127) : FVec Ideal ⟨3, ![2, 4096, 1024]⟩ .f32)
      = (Cert.KernelIdeal.Gen.W13 m ρ c (Proc.devRef .tc Cert.KernelIdeal.main_v73) : FVec Ideal ⟨3, ![2, 4096, 1024]⟩ .f32) := by
  funext i
  have key (a : Fin 2) (q : Fin 4096) (j : Fin 1024) :
      (Cert.ReferenceIdeal.Hand.U15 (launchContents m' c) (Proc.devRef .tc Cert.ReferenceIdeal.main_v127) : FVec Ideal ⟨3, ![2, 4096, 1024]⟩ .f32) (ix3 a q j)
      = (Cert.KernelIdeal.Gen.W13 m ρ c (Proc.devRef .tc Cert.KernelIdeal.main_v73) : FVec Ideal ⟨3, ![2, 4096, 1024]⟩ .f32) (ix3 a q j) := by
    have ha : a = ⟨(4096 * a.val + q.val) / 4096, by omega⟩ := Fin.ext (by simp only []; omega)
    have hq : q = ⟨(4096 * a.val + q.val) % 4096, by omega⟩ := Fin.ext (by simp only []; omega)
    have e1 := Cert.ReferenceIdeal.Hand.v127_at (launchContents m' c) ⟨4096 * a.val + q.val, by omega⟩ j
    have e2 := Cert.KernelIdeal.Val.v73_at m ρ c ⟨4096 * a.val + q.val, by omega⟩ j
    rw [h, ← kout_eq _ (real_in m ρ c hp)] at e1
    have e := e1.trans e2.symm
    simp only [] at e
    rw [← ha, ← hq] at e
    exact e
  exact (congrArg _ (ix3_eta i).symm).trans ((key (i 0) (i 1) (i 2)).trans (congrArg _ (ix3_eta i)))

end Cert.Join

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KRun
public import proofs.«01_k».proof.Proof.Join
public import Idealize.ShloMosaic.Adequacy
public import Idealize.ShloMosaic.Init

@[expose] public section

noncomputable section

namespace Cert.Proof

open Idealize.ShloMosaic Idealize.ShloMosaic.TcCoe Idealize.SL.Sem

/-- Every run of the reference ends with its result at the last stretch's contents and its arguments unchanged. -/
theorem ref_run (m : Join.RMem) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v127)
        = Cert.ReferenceIdeal.Hand.U15 (StableHlo.launchContents m c) (Proc.devRef .tc Cert.ReferenceIdeal.main_v127)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run Cert.ReferenceIdeal.defs _ _).mono (fun r h c => ⟨h c Cert.ReferenceIdeal.main_v127,
    (h c Cert.ReferenceIdeal.main_arg0).trans (Cert.ReferenceIdeal.Hand.kept0 (StableHlo.launchContents m c) Cert.ReferenceIdeal.main_arg0 (by decide) _ (by simp)),
    (h c Cert.ReferenceIdeal.main_arg1).trans (Cert.ReferenceIdeal.Hand.kept0 (StableHlo.launchContents m c) Cert.ReferenceIdeal.main_arg1 (by decide) _ (by simp)),
    (h c Cert.ReferenceIdeal.main_arg2).trans (Cert.ReferenceIdeal.Hand.kept0 (StableHlo.launchContents m c) Cert.ReferenceIdeal.main_arg2 (by decide) _ (by simp)),
    (h c Cert.ReferenceIdeal.main_arg3).trans (Cert.ReferenceIdeal.Hand.kept0 (StableHlo.launchContents m c) Cert.ReferenceIdeal.main_arg3 (by decide) _ (by simp)),
    (h c Cert.ReferenceIdeal.main_arg4).trans (Cert.ReferenceIdeal.Hand.kept0 (StableHlo.launchContents m c) Cert.ReferenceIdeal.main_arg4 (by decide) _ (by simp)),
    (h c Cert.ReferenceIdeal.main_arg5).trans (Cert.ReferenceIdeal.Hand.kept0 (StableHlo.launchContents m c) Cert.ReferenceIdeal.main_arg5 (by decide) _ (by simp)),
    (h c Cert.ReferenceIdeal.main_arg6).trans (Cert.ReferenceIdeal.Hand.kept0 (StableHlo.launchContents m c) Cert.ReferenceIdeal.main_arg6 (by decide) _ (by simp)),
    (h c Cert.ReferenceIdeal.main_arg7).trans (Cert.ReferenceIdeal.Hand.kept0 (StableHlo.launchContents m c) Cert.ReferenceIdeal.main_arg7 (by decide) _ (by simp)),
    (h c Cert.ReferenceIdeal.main_arg8).trans (Cert.ReferenceIdeal.Hand.kept0 (StableHlo.launchContents m c) Cert.ReferenceIdeal.main_arg8 (by decide) _ (by simp)),
    (h c Cert.ReferenceIdeal.main_arg9).trans (Cert.ReferenceIdeal.Hand.kept0 (StableHlo.launchContents m c) Cert.ReferenceIdeal.main_arg9 (by decide) _ (by simp)),
    (h c Cert.ReferenceIdeal.main_arg10).trans (Cert.ReferenceIdeal.Hand.kept0 (StableHlo.launchContents m c) Cert.ReferenceIdeal.main_arg10 (by decide) _ (by simp)),
    (h c Cert.ReferenceIdeal.main_arg11).trans (Cert.ReferenceIdeal.Hand.kept0 (StableHlo.launchContents m c) Cert.ReferenceIdeal.main_arg11 (by decide) _ (by simp))⟩)
    (Cert.ReferenceIdeal.Hand.run m ρ)

/-- The reference leaves its arguments unchanged; its counters read zero because it declares no semaphore. -/
theorem ref_frame : Cert.quiescent_ReferenceIdeal := fun m ρ _ =>
  (θ_run Cert.ReferenceIdeal.defs _ _).mono (fun r h => ⟨fun c => (h c).2, sem_eq_zero_of_no_sems (by decide) r.2⟩) (ref_run m ρ)

/-- The kernel's program and the reference compute the same result wherever the precondition holds. -/
theorem values : Cert.algebraic_KernelIdeal_ReferenceIdeal_pre_finite := by
  intro m g m' g' hp hargs
  refine ⟨fun c => Cert.KernelIdeal.Gen.W13 m g c (Proc.devRef .tc Cert.KernelIdeal.main_v73), ?_, ?_⟩
  · exact (θ_run Cert.KernelIdeal.defs _ _).mono (fun r h c => ⟨h.1 c, h.2.1 c⟩)
      (θ_run_and (Cert.KernelIdeal.Val.run_out m g) (Cert.KernelIdeal.Gen.frame m g))
  · exact (θ_run Cert.ReferenceIdeal.defs _ _).mono
      (fun r h c => ⟨(h c).1.trans (Join.out_eq m g m' c hp (Join.in_eq m g m' c (hargs c))), (h c).2⟩) (ref_run m' g')

theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  ref_frame,
  fun m ρ _ => ref_frame m ρ trivial,
  IdealRules.named_const.statement Cert.KernelIdeal.κ "rsq" .f32 0x3E3504F3#32 _ rfl,
  values⟩

end Cert.Proof

end
